-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x4096 : Shape := ⟨2, ![2048, 4096]⟩
abbrev S8192x4096 : Shape := ⟨2, ![8192, 4096]⟩
abbrev S2x3x2048x2048 : Shape := ⟨4, ![2, 3, 2048, 2048]⟩
abbrev S2x2048x2048 : Shape := ⟨3, ![2, 2048, 2048]⟩
abbrev S512x2048 : Shape := ⟨2, ![512, 2048]⟩
abbrev S3 : Shape := ⟨1, ![3]⟩
abbrev S2x3x4 : Shape := ⟨3, ![2, 3, 4]⟩
abbrev S_ : Shape := ⟨0, ![]⟩
abbrev S1 : Shape := ⟨1, ![1]⟩
abbrev S2048x2048 : Shape := ⟨2, ![2048, 2048]⟩
abbrev S1x512x2048 : Shape := ⟨3, ![1, 512, 2048]⟩
abbrev S1x1x1 : Shape := ⟨3, ![1, 1, 1]⟩
abbrev S1x1x512x2048 : Shape := ⟨4, ![1, 1, 512, 2048]⟩

abbrev nBuf : Space → Nat
  | .hbm => 5
  | .vmem => 4
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S2x3x2048x2048, .f32⟩
  | .hbm, ⟨4, _⟩ => ⟨S2x2048x2048, .f32⟩
  | .local _ .vmem, ⟨0, _⟩ => ⟨S2048x4096, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
@[reducible] def k0_t1_loop : Scf.Loop 32 :=
  let c0_i32_12 : BitVec 32 := 0#32
  let c4_i32_13 : BitVec 32 := 4#32
  let v17 : BitVec 32 := Scalar.addi c0_i32_12 c4_i32_13
  let c1_i32_14 : BitVec 32 := 1#32
  ⟨c0_i32_12, v17, c1_i32_14⟩
def k0_off1 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v23 : BitVec 32 := Scalar.addi v2 c3_i32
  let c0_i32_34 : BitVec 32 := 0#32
  let v24 : BitVec 32 := Scalar.subi v23 c0_i32_34
  let c4_i32_35 : BitVec 32 := 4#32
  let v25 : BitVec 32 := Scalar.remsi v24 c4_i32_35
  let c2048_i32 : BitVec 32 := 2048#32
  let v26 : BitVec 32 := Scalar.muli v25 c2048_i32
  let c0_i32_12 : BitVec 32 := 0#32
  let c1_i32_14 : BitVec 32 := 1#32
  let arg14 : BitVec 32 := Scf.iv c0_i32_12 c1_i32_14 k0_t1
  let c512_i32 : BitVec 32 := 512#32
  let v27 : BitVec 32 := Scalar.muli arg14 c512_i32
  let v28 : BitVec 32 := Scalar.addi v26 v27
  let c0_i32_37 : BitVec 32 := 0#32
  ![v28.toNat, 0]
def k0_off2 (k0_t1 : Fin k0_t1_loop.trips) : Fin 3 → Nat :=
  let c0_i32_46 : BitVec 32 := 0#32
  let c0_i32_12 : BitVec 32 := 0#32
  let c1_i32_14 : BitVec 32 := 1#32
  let arg14 : BitVec 32 := Scf.iv c0_i32_12 c1_i32_14 k0_t1
  let c512_i32_45 : BitVec 32 := 512#32
  let v41 : BitVec 32 := Scalar.muli arg14 c512_i32_45
  let c0_i32_48 : BitVec 32 := 0#32
  ![0, v41.toNat, 0]
def k0_off3 (k0_t1 : Fin k0_t1_loop.trips) : Fin 3 → Nat :=
  let c0_i32_59 : BitVec 32 := 0#32
  let c0_i32_60 : BitVec 32 := 0#32
  let c0_i32_12 : BitVec 32 := 0#32
  let c1_i32_14 : BitVec 32 := 1#32
  let arg14 : BitVec 32 := Scf.iv c0_i32_12 c1_i32_14 k0_t1
  ![0, 0, arg14.toNat]
def k0_off4 (k0_t1 : Fin k0_t1_loop.trips) : Fin 4 → Nat :=
  let c0_i32_55 : BitVec 32 := 0#32
  let c0_i32_56 : BitVec 32 := 0#32
  let c0_i32_12 : BitVec 32 := 0#32
  let c1_i32_14 : BitVec 32 := 1#32
  let arg14 : BitVec 32 := Scf.iv c0_i32_12 c1_i32_14 k0_t1
  let c512_i32_53 : BitVec 32 := 512#32
  let v51 : BitVec 32 := Scalar.muli arg14 c512_i32_53
  let c0_i32_63 : BitVec 32 := 0#32
  ![0, 0, v51.toNat, 0]
def k0_dev3 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_61 : BitVec 32 := 1#32
  let v52 : BitVec 32 := Scalar.muli v4 c1_i32_61
  let v53 : BitVec 32 := Scalar.addi c0_i32_62 v52
  v53.toNat
def k0_off5 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_65 : BitVec 32 := 1#32
  let v62 : BitVec 32 := Scalar.addi v2 c1_i32_65
  let c0_i32_66 : BitVec 32 := 0#32
  let v63 : BitVec 32 := Scalar.addi v62 c0_i32_66
  let c4_i32_67 : BitVec 32 := 4#32
  let v64 : BitVec 32 := Scalar.remsi v63 c4_i32_67
  let c2048_i32_68 : BitVec 32 := 2048#32
  let v65 : BitVec 32 := Scalar.muli v64 c2048_i32_68
  let c0_i32_12 : BitVec 32 := 0#32
  let c1_i32_14 : BitVec 32 := 1#32
  let arg14 : BitVec 32 := Scf.iv c0_i32_12 c1_i32_14 k0_t1
  let c512_i32_69 : BitVec 32 := 512#32
  let v66 : BitVec 32 := Scalar.muli arg14 c512_i32_69
  let v67 : BitVec 32 := Scalar.addi v65 v66
  let c0_i32_71 : BitVec 32 := 0#32
  ![v67.toNat, 0]
def k0_off6 (k0_t1 : Fin k0_t1_loop.trips) : Fin 3 → Nat :=
  let c1_i32_81 : BitVec 32 := 1#32
  let c0_i32_12 : BitVec 32 := 0#32
  let c1_i32_14 : BitVec 32 := 1#32
  let arg14 : BitVec 32 := Scf.iv c0_i32_12 c1_i32_14 k0_t1
  let c512_i32_80 : BitVec 32 := 512#32
  let v80 : BitVec 32 := Scalar.muli arg14 c512_i32_80
  let c0_i32_83 : BitVec 32 := 0#32
  ![1, v80.toNat, 0]
def k0_off7 (k0_t1 : Fin k0_t1_loop.trips) : Fin 3 → Nat :=
  let c1_i32_94 : BitVec 32 := 1#32
  let c0_i32_95 : BitVec 32 := 0#32
  let c0_i32_12 : BitVec 32 := 0#32
  let c1_i32_14 : BitVec 32 := 1#32
  let arg14 : BitVec 32 := Scf.iv c0_i32_12 c1_i32_14 k0_t1
  ![1, 0, arg14.toNat]
def k0_off8 (k0_t1 : Fin k0_t1_loop.trips) : Fin 4 → Nat :=
  let c1_i32_90 : BitVec 32 := 1#32
  let c0_i32_91 : BitVec 32 := 0#32
  let c0_i32_12 : BitVec 32 := 0#32
  let c1_i32_14 : BitVec 32 := 1#32
  let arg14 : BitVec 32 := Scf.iv c0_i32_12 c1_i32_14 k0_t1
  let c512_i32_88 : BitVec 32 := 512#32
  let v90 : BitVec 32 := Scalar.muli arg14 c512_i32_88
  let c0_i32_98 : BitVec 32 := 0#32
  ![1, 0, v90.toNat, 0]
def k0_dev4 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_96 : BitVec 32 := 1#32
  let v91 : BitVec 32 := Scalar.muli v7 c1_i32_96
  let v92 : BitVec 32 := Scalar.addi c0_i32_97 v91
  v92.toNat
@[reducible] def k0_t2_loop : Scf.Loop 32 :=
  let c0_i32_16 : BitVec 32 := 0#32
  let c8_i32 : BitVec 32 := 8#32
  let v18 : BitVec 32 := Scalar.addi c0_i32_16 c8_i32
  let c1_i32_17 : BitVec 32 := 1#32
  ⟨c0_i32_16, v18, c1_i32_17⟩
def k0_off9 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_45 : BitVec 32 := 8#32
  let v45 : BitVec 32 := Scalar.addi v2 c8_i32_45
  let c2_i32_46 : BitVec 32 := 2#32
  let v46 : BitVec 32 := Scalar.subi v45 c2_i32_46
  let c1_i32_41 : BitVec 32 := 1#32
  let c0_i32_16 : BitVec 32 := 0#32
  let c1_i32_17 : BitVec 32 := 1#32
  let arg14 : BitVec 32 := Scf.iv c0_i32_16 c1_i32_17 k0_t2
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c1_i32_44 : BitVec 32 := 1#32
  let v44 : BitVec 32 := Scalar.subi v40 c1_i32_44
  let v47 : BitVec 32 := Scalar.subi v46 v44
  let c4_i32_47 : BitVec 32 := 4#32
  let v48 : BitVec 32 := Scalar.remsi v47 c4_i32_47
  let c2048_i32 : BitVec 32 := 2048#32
  let v49 : BitVec 32 := Scalar.muli v48 c2048_i32
  let c4_i32_42 : BitVec 32 := 4#32
  let v41 : BitVec 32 := Scalar.remsi arg14 c4_i32_42
  let c512_i32_48 : BitVec 32 := 512#32
  let v50 : BitVec 32 := Scalar.muli v41 c512_i32_48
  let v51 : BitVec 32 := Scalar.addi v49 v50
  let c0_i32_50 : BitVec 32 := 0#32
  ![v51.toNat, 0]
def k0_off10 (k0_t2 : Fin k0_t2_loop.trips) : Fin 3 → Nat :=
  let c0_i32_60 : BitVec 32 := 0#32
  let c1_i32_41 : BitVec 32 := 1#32
  let c0_i32_16 : BitVec 32 := 0#32
  let c1_i32_17 : BitVec 32 := 1#32
  let arg14 : BitVec 32 := Scf.iv c0_i32_16 c1_i32_17 k0_t2
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c1_i32_56 : BitVec 32 := 1#32
  let v61 : BitVec 32 := Scalar.subi v40 c1_i32_56
  let c4_i32_42 : BitVec 32 := 4#32
  let v41 : BitVec 32 := Scalar.remsi arg14 c4_i32_42
  ![0, v61.toNat, v41.toNat]
def k0_off11 (k0_t2 : Fin k0_t2_loop.trips) : Fin 4 → Nat :=
  let c0_i32_59 : BitVec 32 := 0#32
  let c1_i32_41 : BitVec 32 := 1#32
  let c0_i32_16 : BitVec 32 := 0#32
  let c1_i32_17 : BitVec 32 := 1#32
  let arg14 : BitVec 32 := Scf.iv c0_i32_16 c1_i32_17 k0_t2
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c1_i32_56 : BitVec 32 := 1#32
  let v61 : BitVec 32 := Scalar.subi v40 c1_i32_56
  let c4_i32_42 : BitVec 32 := 4#32
  let v41 : BitVec 32 := Scalar.remsi arg14 c4_i32_42
  let c512_i32_57 : BitVec 32 := 512#32
  let v62 : BitVec 32 := Scalar.muli v41 c512_i32_57
  let c0_i32_64 : BitVec 32 := 0#32
  ![0, v61.toNat, v62.toNat, 0]
def k0_off12 (k0_t2 : Fin k0_t2_loop.trips) : Fin 3 → Nat :=
  let c0_i32_86 : BitVec 32 := 0#32
  let c1_i32_41 : BitVec 32 := 1#32
  let c0_i32_16 : BitVec 32 := 0#32
  let c1_i32_17 : BitVec 32 := 1#32
  let arg14 : BitVec 32 := Scf.iv c0_i32_16 c1_i32_17 k0_t2
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c4_i32_42 : BitVec 32 := 4#32
  let v41 : BitVec 32 := Scalar.remsi arg14 c4_i32_42
  ![0, v40.toNat, v41.toNat]
def k0_off13 (k0_t2 : Fin k0_t2_loop.trips) : Fin 4 → Nat :=
  let c0_i32_84 : BitVec 32 := 0#32
  let c1_i32_41 : BitVec 32 := 1#32
  let c0_i32_16 : BitVec 32 := 0#32
  let c1_i32_17 : BitVec 32 := 1#32
  let arg14 : BitVec 32 := Scf.iv c0_i32_16 c1_i32_17 k0_t2
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c4_i32_42 : BitVec 32 := 4#32
  let v41 : BitVec 32 := Scalar.remsi arg14 c4_i32_42
  let c512_i32_82 : BitVec 32 := 512#32
  let v92 : BitVec 32 := Scalar.muli v41 c512_i32_82
  let c0_i32_89 : BitVec 32 := 0#32
  ![0, v40.toNat, v92.toNat, 0]
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_87 : BitVec 32 := 1#32
  let v93 : BitVec 32 := Scalar.muli v4 c1_i32_87
  let v94 : BitVec 32 := Scalar.addi c0_i32_88 v93
  v94.toNat
def k0_off14 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_94 : BitVec 32 := 2#32
  let v106 : BitVec 32 := Scalar.addi v2 c2_i32_94
  let c1_i32_41 : BitVec 32 := 1#32
  let c0_i32_16 : BitVec 32 := 0#32
  let c1_i32_17 : BitVec 32 := 1#32
  let arg14 : BitVec 32 := Scf.iv c0_i32_16 c1_i32_17 k0_t2
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c1_i32_93 : BitVec 32 := 1#32
  let v105 : BitVec 32 := Scalar.subi v40 c1_i32_93
  let v107 : BitVec 32 := Scalar.addi v106 v105
  let c4_i32_95 : BitVec 32 := 4#32
  let v108 : BitVec 32 := Scalar.remsi v107 c4_i32_95
  let c2048_i32_96 : BitVec 32 := 2048#32
  let v109 : BitVec 32 := Scalar.muli v108 c2048_i32_96
  let c4_i32_42 : BitVec 32 := 4#32
  let v41 : BitVec 32 := Scalar.remsi arg14 c4_i32_42
  let c512_i32_97 : BitVec 32 := 512#32
  let v110 : BitVec 32 := Scalar.muli v41 c512_i32_97
  let v111 : BitVec 32 := Scalar.addi v109 v110
  let c0_i32_99 : BitVec 32 := 0#32
  ![v111.toNat, 0]
def k0_off15 (k0_t2 : Fin k0_t2_loop.trips) : Fin 3 → Nat :=
  let c1_i32_110 : BitVec 32 := 1#32
  let c1_i32_41 : BitVec 32 := 1#32
  let c0_i32_16 : BitVec 32 := 0#32
  let c1_i32_17 : BitVec 32 := 1#32
  let arg14 : BitVec 32 := Scf.iv c0_i32_16 c1_i32_17 k0_t2
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c1_i32_106 : BitVec 32 := 1#32
  let v121 : BitVec 32 := Scalar.subi v40 c1_i32_106
  let c4_i32_42 : BitVec 32 := 4#32
  let v41 : BitVec 32 := Scalar.remsi arg14 c4_i32_42
  ![1, v121.toNat, v41.toNat]
def k0_off16 (k0_t2 : Fin k0_t2_loop.trips) : Fin 4 → Nat :=
  let c1_i32_109 : BitVec 32 := 1#32
  let c1_i32_41 : BitVec 32 := 1#32
  let c0_i32_16 : BitVec 32 := 0#32
  let c1_i32_17 : BitVec 32 := 1#32
  let arg14 : BitVec 32 := Scf.iv c0_i32_16 c1_i32_17 k0_t2
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c1_i32_106 : BitVec 32 := 1#32
  let v121 : BitVec 32 := Scalar.subi v40 c1_i32_106
  let c4_i32_42 : BitVec 32 := 4#32
  let v41 : BitVec 32 := Scalar.remsi arg14 c4_i32_42
  let c512_i32_107 : BitVec 32 := 512#32
  let v122 : BitVec 32 := Scalar.muli v41 c512_i32_107
  let c0_i32_114 : BitVec 32 := 0#32
  ![1, v121.toNat, v122.toNat, 0]
def k0_off17 (k0_t2 : Fin k0_t2_loop.trips) : Fin 3 → Nat :=
  let c1_i32_136 : BitVec 32 := 1#32
  let c1_i32_41 : BitVec 32 := 1#32
  let c0_i32_16 : BitVec 32 := 0#32
  let c1_i32_17 : BitVec 32 := 1#32
  let arg14 : BitVec 32 := Scf.iv c0_i32_16 c1_i32_17 k0_t2
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c4_i32_42 : BitVec 32 := 4#32
  let v41 : BitVec 32 := Scalar.remsi arg14 c4_i32_42
  ![1, v40.toNat, v41.toNat]
def k0_off18 (k0_t2 : Fin k0_t2_loop.trips) : Fin 4 → Nat :=
  let c1_i32_134 : BitVec 32 := 1#32
  let c1_i32_41 : BitVec 32 := 1#32
  let c0_i32_16 : BitVec 32 := 0#32
  let c1_i32_17 : BitVec 32 := 1#32
  let arg14 : BitVec 32 := Scf.iv c0_i32_16 c1_i32_17 k0_t2
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c4_i32_42 : BitVec 32 := 4#32
  let v41 : BitVec 32 := Scalar.remsi arg14 c4_i32_42
  let c512_i32_132 : BitVec 32 := 512#32
  let v152 : BitVec 32 := Scalar.muli v41 c512_i32_132
  let c0_i32_139 : BitVec 32 := 0#32
  ![1, v40.toNat, v152.toNat, 0]
def k0_dev6 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_137 : BitVec 32 := 1#32
  let v153 : BitVec 32 := Scalar.muli v7 c1_i32_137
  let v154 : BitVec 32 := Scalar.addi c0_i32_138 v153
  v154.toNat
@[reducible] def k0_t3_loop : Scf.Loop 32 :=
  let c0_i32_19 : BitVec 32 := 0#32
  let c4_i32_20 : BitVec 32 := 4#32
  let v19 : BitVec 32 := Scalar.addi c0_i32_19 c4_i32_20
  let c1_i32_21 : BitVec 32 := 1#32
  ⟨c0_i32_19, v19, c1_i32_21⟩
def k0_off19 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v24 : BitVec 32 := Scalar.muli v2 c2048_i32
  let c0_i32_19 : BitVec 32 := 0#32
  let c1_i32_21 : BitVec 32 := 1#32
  let arg14 : BitVec 32 := Scf.iv c0_i32_19 c1_i32_21 k0_t3
  let c512_i32_34 : BitVec 32 := 512#32
  let v25 : BitVec 32 := Scalar.muli arg14 c512_i32_34
  let v26 : BitVec 32 := Scalar.addi v24 v25
  let c0_i32_36 : BitVec 32 := 0#32
  ![v26.toNat, 0]
def k0_off20 (k0_t3 : Fin k0_t3_loop.trips) : Fin 3 → Nat :=
  let c0_i32_47 : BitVec 32 := 0#32
  let c2_i32_48 : BitVec 32 := 2#32
  let c0_i32_19 : BitVec 32 := 0#32
  let c1_i32_21 : BitVec 32 := 1#32
  let arg14 : BitVec 32 := Scf.iv c0_i32_19 c1_i32_21 k0_t3
  ![0, 2, arg14.toNat]
def k0_off21 (k0_t3 : Fin k0_t3_loop.trips) : Fin 4 → Nat :=
  let c0_i32_45 : BitVec 32 := 0#32
  let c2_i32_46 : BitVec 32 := 2#32
  let c0_i32_19 : BitVec 32 := 0#32
  let c1_i32_21 : BitVec 32 := 1#32
  let arg14 : BitVec 32 := Scf.iv c0_i32_19 c1_i32_21 k0_t3
  let c512_i32_42 : BitVec 32 := 512#32
  let v36 : BitVec 32 := Scalar.muli arg14 c512_i32_42
  let c0_i32_53 : BitVec 32 := 0#32
  ![0, 2, v36.toNat, 0]
def k0_off22 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_68 : BitVec 32 := 2048#32
  let v60 : BitVec 32 := Scalar.muli v2 c2048_i32_68
  let c0_i32_19 : BitVec 32 := 0#32
  let c1_i32_21 : BitVec 32 := 1#32
  let arg14 : BitVec 32 := Scf.iv c0_i32_19 c1_i32_21 k0_t3
  let c512_i32_69 : BitVec 32 := 512#32
  let v61 : BitVec 32 := Scalar.muli arg14 c512_i32_69
  let v62 : BitVec 32 := Scalar.addi v60 v61
  let c0_i32_71 : BitVec 32 := 0#32
  ![v62.toNat, 0]
def k0_off23 (k0_t3 : Fin k0_t3_loop.trips) : Fin 3 → Nat :=
  let c0_i32_81 : BitVec 32 := 0#32
  let c0_i32_82 : BitVec 32 := 0#32
  let c0_i32_19 : BitVec 32 := 0#32
  let c1_i32_21 : BitVec 32 := 1#32
  let arg14 : BitVec 32 := Scf.iv c0_i32_19 c1_i32_21 k0_t3
  ![0, 0, arg14.toNat]
def k0_off24 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_74 : BitVec 32 := 4#32
  let v69 : BitVec 32 := Scalar.addi v2 c4_i32_74
  let c0_i32_75 : BitVec 32 := 0#32
  let v70 : BitVec 32 := Scalar.subi v69 c0_i32_75
  let c4_i32_76 : BitVec 32 := 4#32
  let v71 : BitVec 32 := Scalar.remsi v70 c4_i32_76
  let c2048_i32_77 : BitVec 32 := 2048#32
  let v72 : BitVec 32 := Scalar.muli v71 c2048_i32_77
  let c0_i32_19 : BitVec 32 := 0#32
  let c1_i32_21 : BitVec 32 := 1#32
  let arg14 : BitVec 32 := Scf.iv c0_i32_19 c1_i32_21 k0_t3
  let c512_i32_78 : BitVec 32 := 512#32
  let v73 : BitVec 32 := Scalar.muli arg14 c512_i32_78
  let v74 : BitVec 32 := Scalar.addi v72 v73
  let c0_i32_85 : BitVec 32 := 0#32
  ![v74.toNat, 0]
def k0_dev7 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_83 : BitVec 32 := 1#32
  let v75 : BitVec 32 := Scalar.muli v4 c1_i32_83
  let v76 : BitVec 32 := Scalar.addi c0_i32_84 v75
  v76.toNat
def k0_off25 (k0_t3 : Fin k0_t3_loop.trips) : Fin 3 → Nat :=
  let c1_i32_103 : BitVec 32 := 1#32
  let c2_i32_104 : BitVec 32 := 2#32
  let c0_i32_19 : BitVec 32 := 0#32
  let c1_i32_21 : BitVec 32 := 1#32
  let arg14 : BitVec 32 := Scf.iv c0_i32_19 c1_i32_21 k0_t3
  ![1, 2, arg14.toNat]
def k0_off26 (k0_t3 : Fin k0_t3_loop.trips) : Fin 4 → Nat :=
  let c1_i32_101 : BitVec 32 := 1#32
  let c2_i32_102 : BitVec 32 := 2#32
  let c0_i32_19 : BitVec 32 := 0#32
  let c1_i32_21 : BitVec 32 := 1#32
  let arg14 : BitVec 32 := Scf.iv c0_i32_19 c1_i32_21 k0_t3
  let c512_i32_98 : BitVec 32 := 512#32
  let v96 : BitVec 32 := Scalar.muli arg14 c512_i32_98
  let c0_i32_109 : BitVec 32 := 0#32
  ![1, 2, v96.toNat, 0]
def k0_off27 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_124 : BitVec 32 := 2048#32
  let v120 : BitVec 32 := Scalar.muli v2 c2048_i32_124
  let c0_i32_19 : BitVec 32 := 0#32
  let c1_i32_21 : BitVec 32 := 1#32
  let arg14 : BitVec 32 := Scf.iv c0_i32_19 c1_i32_21 k0_t3
  let c512_i32_125 : BitVec 32 := 512#32
  let v121 : BitVec 32 := Scalar.muli arg14 c512_i32_125
  let v122 : BitVec 32 := Scalar.addi v120 v121
  let c2048_i32_127 : BitVec 32 := 2048#32
  ![v122.toNat, 2048]
def k0_off28 (k0_t3 : Fin k0_t3_loop.trips) : Fin 3 → Nat :=
  let c1_i32_136 : BitVec 32 := 1#32
  let c0_i32_137 : BitVec 32 := 0#32
  let c0_i32_19 : BitVec 32 := 0#32
  let c1_i32_21 : BitVec 32 := 1#32
  let arg14 : BitVec 32 := Scf.iv c0_i32_19 c1_i32_21 k0_t3
  ![1, 0, arg14.toNat]
def k0_off29 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_130 : BitVec 32 := 0#32
  let v129 : BitVec 32 := Scalar.addi v2 c0_i32_130
  let c4_i32_131 : BitVec 32 := 4#32
  let v130 : BitVec 32 := Scalar.remsi v129 c4_i32_131
  let c2048_i32_132 : BitVec 32 := 2048#32
  let v131 : BitVec 32 := Scalar.muli v130 c2048_i32_132
  let c0_i32_19 : BitVec 32 := 0#32
  let c1_i32_21 : BitVec 32 := 1#32
  let arg14 : BitVec 32 := Scf.iv c0_i32_19 c1_i32_21 k0_t3
  let c512_i32_133 : BitVec 32 := 512#32
  let v132 : BitVec 32 := Scalar.muli arg14 c512_i32_133
  let v133 : BitVec 32 := Scalar.addi v131 v132
  let c2048_i32_140 : BitVec 32 := 2048#32
  ![v133.toNat, 2048]
def k0_dev8 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_138 : BitVec 32 := 1#32
  let v134 : BitVec 32 := Scalar.muli v7 c1_i32_138
  let v135 : BitVec 32 := Scalar.addi c0_i32_139 v134
  v135.toNat
@[reducible] def k0_t4_loop : Scf.Loop 32 :=
  let c0_i32_23 : BitVec 32 := 0#32
  let c8_i32_24 : BitVec 32 := 8#32
  let v20 : BitVec 32 := Scalar.addi c0_i32_23 c8_i32_24
  let c1_i32_25 : BitVec 32 := 1#32
  ⟨c0_i32_23, v20, c1_i32_25⟩
def k0_off30 (k0_t4 : Fin k0_t4_loop.trips) : Fin 3 → Nat :=
  let c0_i32_46 : BitVec 32 := 0#32
  let c1_i32_41 : BitVec 32 := 1#32
  let c0_i32_23 : BitVec 32 := 0#32
  let c1_i32_25 : BitVec 32 := 1#32
  let arg14 : BitVec 32 := Scf.iv c0_i32_23 c1_i32_25 k0_t4
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c1_i32_43 : BitVec 32 := 1#32
  let v42 : BitVec 32 := Scalar.subi v40 c1_i32_43
  let c4_i32_42 : BitVec 32 := 4#32
  let v41 : BitVec 32 := Scalar.remsi arg14 c4_i32_42
  ![0, v42.toNat, v41.toNat]
def k0_off31 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_44 : BitVec 32 := 4#32
  let v43 : BitVec 32 := Scalar.addi v2 c4_i32_44
  let c1_i32_41 : BitVec 32 := 1#32
  let c0_i32_23 : BitVec 32 := 0#32
  let c1_i32_25 : BitVec 32 := 1#32
  let arg14 : BitVec 32 := Scf.iv c0_i32_23 c1_i32_25 k0_t4
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c1_i32_43 : BitVec 32 := 1#32
  let v42 : BitVec 32 := Scalar.subi v40 c1_i32_43
  let v44 : BitVec 32 := Scalar.subi v43 v42
  let c4_i32_45 : BitVec 32 := 4#32
  let v45 : BitVec 32 := Scalar.remsi v44 c4_i32_45
  let c2048_i32 : BitVec 32 := 2048#32
  let v46 : BitVec 32 := Scalar.muli v45 c2048_i32
  let c4_i32_42 : BitVec 32 := 4#32
  let v41 : BitVec 32 := Scalar.remsi arg14 c4_i32_42
  let c512_i32 : BitVec 32 := 512#32
  let v47 : BitVec 32 := Scalar.muli v41 c512_i32
  let v48 : BitVec 32 := Scalar.addi v46 v47
  let c0_i32_50 : BitVec 32 := 0#32
  ![v48.toNat, 0]
def k0_off32 (k0_t4 : Fin k0_t4_loop.trips) : Fin 3 → Nat :=
  let c0_i32_57 : BitVec 32 := 0#32
  let c1_i32_41 : BitVec 32 := 1#32
  let c0_i32_23 : BitVec 32 := 0#32
  let c1_i32_25 : BitVec 32 := 1#32
  let arg14 : BitVec 32 := Scf.iv c0_i32_23 c1_i32_25 k0_t4
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c4_i32_42 : BitVec 32 := 4#32
  let v41 : BitVec 32 := Scalar.remsi arg14 c4_i32_42
  ![0, v40.toNat, v41.toNat]
def k0_off33 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_52 : BitVec 32 := 4#32
  let v55 : BitVec 32 := Scalar.addi v2 c4_i32_52
  let c1_i32_41 : BitVec 32 := 1#32
  let c0_i32_23 : BitVec 32 := 0#32
  let c1_i32_25 : BitVec 32 := 1#32
  let arg14 : BitVec 32 := Scf.iv c0_i32_23 c1_i32_25 k0_t4
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let v56 : BitVec 32 := Scalar.subi v55 v40
  let c4_i32_53 : BitVec 32 := 4#32
  let v57 : BitVec 32 := Scalar.remsi v56 c4_i32_53
  let c2048_i32_54 : BitVec 32 := 2048#32
  let v58 : BitVec 32 := Scalar.muli v57 c2048_i32_54
  let c4_i32_42 : BitVec 32 := 4#32
  let v41 : BitVec 32 := Scalar.remsi arg14 c4_i32_42
  let c512_i32_55 : BitVec 32 := 512#32
  let v59 : BitVec 32 := Scalar.muli v41 c512_i32_55
  let v60 : BitVec 32 := Scalar.addi v58 v59
  let c0_i32_60 : BitVec 32 := 0#32
  ![v60.toNat, 0]
def k0_dev9 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_58 : BitVec 32 := 1#32
  let v61 : BitVec 32 := Scalar.muli v4 c1_i32_58
  let v62 : BitVec 32 := Scalar.addi c0_i32_59 v61
  v62.toNat
def k0_off34 (k0_t4 : Fin k0_t4_loop.trips) : Fin 3 → Nat :=
  let c1_i32_66 : BitVec 32 := 1#32
  let c1_i32_41 : BitVec 32 := 1#32
  let c0_i32_23 : BitVec 32 := 0#32
  let c1_i32_25 : BitVec 32 := 1#32
  let arg14 : BitVec 32 := Scf.iv c0_i32_23 c1_i32_25 k0_t4
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c1_i32_62 : BitVec 32 := 1#32
  let v69 : BitVec 32 := Scalar.subi v40 c1_i32_62
  let c4_i32_42 : BitVec 32 := 4#32
  let v41 : BitVec 32 := Scalar.remsi arg14 c4_i32_42
  ![1, v69.toNat, v41.toNat]
def k0_off35 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_41 : BitVec 32 := 1#32
  let c0_i32_23 : BitVec 32 := 0#32
  let c1_i32_25 : BitVec 32 := 1#32
  let arg14 : BitVec 32 := Scf.iv c0_i32_23 c1_i32_25 k0_t4
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c1_i32_62 : BitVec 32 := 1#32
  let v69 : BitVec 32 := Scalar.subi v40 c1_i32_62
  let v70 : BitVec 32 := Scalar.addi v2 v69
  let c4_i32_63 : BitVec 32 := 4#32
  let v71 : BitVec 32 := Scalar.remsi v70 c4_i32_63
  let c2048_i32_64 : BitVec 32 := 2048#32
  let v72 : BitVec 32 := Scalar.muli v71 c2048_i32_64
  let c4_i32_42 : BitVec 32 := 4#32
  let v41 : BitVec 32 := Scalar.remsi arg14 c4_i32_42
  let c512_i32_65 : BitVec 32 := 512#32
  let v73 : BitVec 32 := Scalar.muli v41 c512_i32_65
  let v74 : BitVec 32 := Scalar.addi v72 v73
  let c2048_i32_70 : BitVec 32 := 2048#32
  ![v74.toNat, 2048]
def k0_off36 (k0_t4 : Fin k0_t4_loop.trips) : Fin 3 → Nat :=
  let c1_i32_76 : BitVec 32 := 1#32
  let c1_i32_41 : BitVec 32 := 1#32
  let c0_i32_23 : BitVec 32 := 0#32
  let c1_i32_25 : BitVec 32 := 1#32
  let arg14 : BitVec 32 := Scf.iv c0_i32_23 c1_i32_25 k0_t4
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let c4_i32_42 : BitVec 32 := 4#32
  let v41 : BitVec 32 := Scalar.remsi arg14 c4_i32_42
  ![1, v40.toNat, v41.toNat]
def k0_off37 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_41 : BitVec 32 := 1#32
  let c0_i32_23 : BitVec 32 := 0#32
  let c1_i32_25 : BitVec 32 := 1#32
  let arg14 : BitVec 32 := Scf.iv c0_i32_23 c1_i32_25 k0_t4
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v40 : BitVec 32 := Scalar.addi c1_i32_41 v39
  let v81 : BitVec 32 := Scalar.addi v2 v40
  let c4_i32_72 : BitVec 32 := 4#32
  let v82 : BitVec 32 := Scalar.remsi v81 c4_i32_72
  let c2048_i32_73 : BitVec 32 := 2048#32
  let v83 : BitVec 32 := Scalar.muli v82 c2048_i32_73
  let c4_i32_42 : BitVec 32 := 4#32
  let v41 : BitVec 32 := Scalar.remsi arg14 c4_i32_42
  let c512_i32_74 : BitVec 32 := 512#32
  let v84 : BitVec 32 := Scalar.muli v41 c512_i32_74
  let v85 : BitVec 32 := Scalar.addi v83 v84
  let c2048_i32_79 : BitVec 32 := 2048#32
  ![v85.toNat, 2048]
def k0_dev10 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_77 : BitVec 32 := 1#32
  let v86 : BitVec 32 := Scalar.muli v7 c1_i32_77
  let v87 : BitVec 32 := Scalar.addi c0_i32_78 v86
  v87.toNat
@[reducible] def k0_t5_loop : Scf.Loop 32 :=
  let c0_i32_27 : BitVec 32 := 0#32
  let c4_i32_28 : BitVec 32 := 4#32
  let v21 : BitVec 32 := Scalar.addi c0_i32_27 c4_i32_28
  let c1_i32_29 : BitVec 32 := 1#32
  ⟨c0_i32_27, v21, c1_i32_29⟩
def k0_off38 (k0_t5 : Fin k0_t5_loop.trips) : Fin 3 → Nat :=
  let c0_i32_37 : BitVec 32 := 0#32
  let c2_i32_38 : BitVec 32 := 2#32
  let c0_i32_27 : BitVec 32 := 0#32
  let c1_i32_29 : BitVec 32 := 1#32
  let arg14 : BitVec 32 := Scf.iv c0_i32_27 c1_i32_29 k0_t5
  ![0, 2, arg14.toNat]
def k0_off39 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_34 : BitVec 32 := 4#32
  let v23 : BitVec 32 := Scalar.addi v2 c4_i32_34
  let c2_i32_35 : BitVec 32 := 2#32
  let v24 : BitVec 32 := Scalar.subi v23 c2_i32_35
  let c4_i32_36 : BitVec 32 := 4#32
  let v25 : BitVec 32 := Scalar.remsi v24 c4_i32_36
  let c2048_i32 : BitVec 32 := 2048#32
  let v26 : BitVec 32 := Scalar.muli v25 c2048_i32
  let c0_i32_27 : BitVec 32 := 0#32
  let c1_i32_29 : BitVec 32 := 1#32
  let arg14 : BitVec 32 := Scf.iv c0_i32_27 c1_i32_29 k0_t5
  let c512_i32 : BitVec 32 := 512#32
  let v27 : BitVec 32 := Scalar.muli arg14 c512_i32
  let v28 : BitVec 32 := Scalar.addi v26 v27
  let c0_i32_43 : BitVec 32 := 0#32
  ![v28.toNat, 0]
def k0_off40 (k0_t5 : Fin k0_t5_loop.trips) : Fin 3 → Nat :=
  let c1_i32_49 : BitVec 32 := 1#32
  let c2_i32_50 : BitVec 32 := 2#32
  let c0_i32_27 : BitVec 32 := 0#32
  let c1_i32_29 : BitVec 32 := 1#32
  let arg14 : BitVec 32 := Scf.iv c0_i32_27 c1_i32_29 k0_t5
  ![1, 2, arg14.toNat]
def k0_off41 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v35 : BitVec 32 := Scalar.addi v2 c2_i32_45
  let c4_i32_46 : BitVec 32 := 4#32
  let v36 : BitVec 32 := Scalar.remsi v35 c4_i32_46
  let c2048_i32_47 : BitVec 32 := 2048#32
  let v37 : BitVec 32 := Scalar.muli v36 c2048_i32_47
  let c0_i32_27 : BitVec 32 := 0#32
  let c1_i32_29 : BitVec 32 := 1#32
  let arg14 : BitVec 32 := Scf.iv c0_i32_27 c1_i32_29 k0_t5
  let c512_i32_48 : BitVec 32 := 512#32
  let v38 : BitVec 32 := Scalar.muli arg14 c512_i32_48
  let v39 : BitVec 32 := Scalar.addi v37 v38
  let c2048_i32_55 : BitVec 32 := 2048#32
  ![v39.toNat, 2048]
@[reducible] def k0_t6_loop : Scf.Loop 32 :=
  let c0_i32_31 : BitVec 32 := 0#32
  let c12_i32 : BitVec 32 := 12#32
  let v22 : BitVec 32 := Scalar.addi c0_i32_31 c12_i32
  let c1_i32_32 : BitVec 32 := 1#32
  ⟨c0_i32_31, v22, c1_i32_32⟩
def k0_off42 (k0_t6 : Fin k0_t6_loop.trips) : Fin 3 → Nat :=
  let c0_i32_45 : BitVec 32 := 0#32
  let c0_i32_31 : BitVec 32 := 0#32
  let c1_i32_32 : BitVec 32 := 1#32
  let arg14 : BitVec 32 := Scf.iv c0_i32_31 c1_i32_32 k0_t6
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let c4_i32_41 : BitVec 32 := 4#32
  let v40 : BitVec 32 := Scalar.remsi arg14 c4_i32_41
  ![0, v39.toNat, v40.toNat]
def k0_off43 (k0_t6 : Fin k0_t6_loop.trips) : Fin 4 → Nat :=
  let c0_i32_44 : BitVec 32 := 0#32
  let c0_i32_31 : BitVec 32 := 0#32
  let c1_i32_32 : BitVec 32 := 1#32
  let arg14 : BitVec 32 := Scf.iv c0_i32_31 c1_i32_32 k0_t6
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let c4_i32_41 : BitVec 32 := 4#32
  let v40 : BitVec 32 := Scalar.remsi arg14 c4_i32_41
  let c512_i32 : BitVec 32 := 512#32
  let v41 : BitVec 32 := Scalar.muli v40 c512_i32
  let c0_i32_48 : BitVec 32 := 0#32
  ![0, v39.toNat, v41.toNat, 0]
def k0_off44 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_50 : BitVec 32 := 4#32
  let v49 : BitVec 32 := Scalar.addi v2 c4_i32_50
  let c0_i32_31 : BitVec 32 := 0#32
  let c1_i32_32 : BitVec 32 := 1#32
  let arg14 : BitVec 32 := Scf.iv c0_i32_31 c1_i32_32 k0_t6
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v50 : BitVec 32 := Scalar.subi v49 v39
  let c4_i32_51 : BitVec 32 := 4#32
  let v51 : BitVec 32 := Scalar.remsi v50 c4_i32_51
  let c2048_i32 : BitVec 32 := 2048#32
  let v52 : BitVec 32 := Scalar.muli v51 c2048_i32
  let c4_i32_41 : BitVec 32 := 4#32
  let v40 : BitVec 32 := Scalar.remsi arg14 c4_i32_41
  let c512_i32_52 : BitVec 32 := 512#32
  let v53 : BitVec 32 := Scalar.muli v40 c512_i32_52
  let v54 : BitVec 32 := Scalar.addi v52 v53
  let c0_i32_56 : BitVec 32 := 0#32
  ![v54.toNat, 0]
def k0_off45 (k0_t6 : Fin k0_t6_loop.trips) : Fin 3 → Nat :=
  let c1_i32_62 : BitVec 32 := 1#32
  let c0_i32_31 : BitVec 32 := 0#32
  let c1_i32_32 : BitVec 32 := 1#32
  let arg14 : BitVec 32 := Scf.iv c0_i32_31 c1_i32_32 k0_t6
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let c4_i32_41 : BitVec 32 := 4#32
  let v40 : BitVec 32 := Scalar.remsi arg14 c4_i32_41
  ![1, v39.toNat, v40.toNat]
def k0_off46 (k0_t6 : Fin k0_t6_loop.trips) : Fin 4 → Nat :=
  let c1_i32_61 : BitVec 32 := 1#32
  let c0_i32_31 : BitVec 32 := 0#32
  let c1_i32_32 : BitVec 32 := 1#32
  let arg14 : BitVec 32 := Scf.iv c0_i32_31 c1_i32_32 k0_t6
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let c4_i32_41 : BitVec 32 := 4#32
  let v40 : BitVec 32 := Scalar.remsi arg14 c4_i32_41
  let c512_i32_58 : BitVec 32 := 512#32
  let v59 : BitVec 32 := Scalar.muli v40 c512_i32_58
  let c0_i32_65 : BitVec 32 := 0#32
  ![1, v39.toNat, v59.toNat, 0]
def k0_off47 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_31 : BitVec 32 := 0#32
  let c1_i32_32 : BitVec 32 := 1#32
  let arg14 : BitVec 32 := Scf.iv c0_i32_31 c1_i32_32 k0_t6
  let c0_i32_35 : BitVec 32 := 0#32
  let v24 : BitVec 1 := Scalar.cmpi .sgt arg14 c0_i32_35
  let v25 : BitVec 32 := Scalar.extui v24
  let c0_i32_36 : BitVec 32 := 0#32
  let v26 : BitVec 1 := Scalar.cmpi .slt arg14 c0_i32_36
  let v27 : BitVec 32 := Scalar.extui v26
  let v28 : BitVec 32 := Scalar.subi v25 v27
  let c4_i32_34 : BitVec 32 := 4#32
  let c0_i32_37 : BitVec 32 := 0#32
  let v29 : BitVec 1 := Scalar.cmpi .sgt c4_i32_34 c0_i32_37
  let v30 : BitVec 32 := Scalar.extui v29
  let c0_i32_38 : BitVec 32 := 0#32
  let v31 : BitVec 1 := Scalar.cmpi .slt c4_i32_34 c0_i32_38
  let v32 : BitVec 32 := Scalar.extui v31
  let v33 : BitVec 32 := Scalar.subi v30 v32
  let v34 : BitVec 1 := Scalar.cmpi .ne v28 v33
  let v35 : BitVec 32 := Scalar.remsi arg14 c4_i32_34
  let c0_i32_39 : BitVec 32 := 0#32
  let v36 : BitVec 1 := Scalar.cmpi .ne v35 c0_i32_39
  let v37 : BitVec 1 := Scalar.andi v34 v36
  let v23 : BitVec 32 := Scalar.divsi arg14 c4_i32_34
  let c1_i32_40 : BitVec 32 := 1#32
  let v38 : BitVec 32 := Scalar.subi v23 c1_i32_40
  let v39 : BitVec 32 := Scalar.select v37 v38 v23
  let v67 : BitVec 32 := Scalar.addi v2 v39
  let c4_i32_67 : BitVec 32 := 4#32
  let v68 : BitVec 32 := Scalar.remsi v67 c4_i32_67
  let c2048_i32_68 : BitVec 32 := 2048#32
  let v69 : BitVec 32 := Scalar.muli v68 c2048_i32_68
  let c4_i32_41 : BitVec 32 := 4#32
  let v40 : BitVec 32 := Scalar.remsi arg14 c4_i32_41
  let c512_i32_69 : BitVec 32 := 512#32
  let v70 : BitVec 32 := Scalar.muli v40 c512_i32_69
  let v71 : BitVec 32 := Scalar.addi v69 v70
  let c2048_i32_73 : BitVec 32 := 2048#32
  ![v71.toNat, 2048]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Common.lean ====
/-
# The ring kernel's protocol: memrefs, semaphore cells, contents, schedule

Four devices in a ring; device `c` sends to the right (`c + 1`, direction `0`) and to the left (`c + 3`, direction
`1`). Each direction carries one half of the columns. A transfer is named by a SLOT `(s, d, k)`:

* `s` — the step, `0, 1, 2` of the reduce-scatter and `3, 4, 5` of the all-gather;
* `d` — the direction;
* `k` — the chunk of 512 rows of the block of 2048 rows that travels.

Every slot has a send semaphore on the device that sends and a receive semaphore on the device that receives, and both
serve this one transfer. What a slot reads (`srcM`), where it lands (`dstM`) and the values it carries (`slotV`) are
written down here, with the schedule of every semaphore cell (`ringRd`), what a device owes (`owed`) and the levels.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.Tactic

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, the ring's rounds, the counters of the local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb (U := UU)

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The device `a` places to the right of `c`. -/
def rot (a : ℕ) (c : Dev nD) : Dev nD := ⟨(c.val + a) % 4, Nat.mod_lt _ (by decide)⟩

/-- Where direction `d` sends, and whom it receives from. -/
def dst (d : Fin 2) (c : Dev nD) : Dev nD := if d = 0 then rot 1 c else rot 3 c
def src (d : Fin 2) (c : Dev nD) : Dev nD := if d = 0 then rot 3 c else rot 1 c

theorem src_dst (d : Fin 2) (c : Dev nD) : src d (dst d c) = c := by revert d c; decide
theorem dst_src (d : Fin 2) (c : Dev nD) : dst d (src d c) = c := by revert d c; decide
theorem dst_ne (d : Fin 2) (c : Dev nD) : dst d c ≠ c := by revert d c; decide

/-- The ring's turn by direction `d`. -/
def turn (d : Fin 2) : Dev nD ≃ Dev nD := ⟨dst d, src d, src_dst d, dst_src d⟩

/-- The block of rows whose product device `c` adds at reduce-scatter step `s` in direction `d` (`s = 3`: its own). -/
def blk (d : Fin 2) (s : ℕ) (c : Dev nD) : Fin 4 := if d = 0 then rot (3 + 3 * s) c else rot (1 + s) c
/-- The block of rows device `c` passes on at all-gather step `t` in direction `d` (`t = 3`: the last it receives). -/
def agB (d : Fin 2) (t : ℕ) (c : Dev nD) : Fin 4 := if d = 0 then rot (3 * t) c else rot t c

theorem agB_zero (d : Fin 2) (c : Dev nD) : agB d 0 c = c := by revert d c; decide
theorem agB_src (d : Fin 2) (t : ℕ) (c : Dev nD) : agB d t (src d c) = agB d (t + 1) c := by
  unfold agB src rot
  split <;> (apply Fin.ext; simp only []; omega)
theorem blk_three (d : Fin 2) (c : Dev nD) : blk d 3 c = c := by revert d c; decide

/-! ## The memrefs -/

abbrev xW : Memref sig .tc .hbm S8192x2048 .f32 := Memref.whole main_arg0
abbrev outW : Memref sig .tc .hbm S8192x4096 .f32 := Memref.whole main_v1_0
abbrev rbW : Memref sig .tc .hbm S2x3x2048x2048 .f32 := Memref.whole main_v1_1
abbrev stW : Memref sig .tc .hbm S2x2048x2048 .f32 := Memref.whole main_v1_2
abbrev wM : Memref sig .tc .vmem S2048x4096 .f32 := Memref.whole cc0_scratch0
abbrev vaM : Memref sig .tc .vmem S512x2048 .f32 := Memref.whole cc0_scratch1
abbrev vbM : Memref sig .tc .vmem S512x2048 .f32 := Memref.whole cc0_scratch2
abbrev vxM : Memref sig .tc .vmem S512x2048 .f32 := Memref.whole cc0_scratch3

theorem x_inb (b k : Fin 4) : ∀ a, (![2048 * b.val + 512 * k.val, 0] : Fin 2 → ℕ) a + S512x2048.size a ≤ S8192x2048.size a := by
  revert b k; decide
theorem out_inb (b : Fin 4) (d : Fin 2) (k : Fin 4) :
    ∀ a, (![2048 * b.val + 512 * k.val, 2048 * d.val] : Fin 2 → ℕ) a + S512x2048.size a ≤ S8192x4096.size a := by
  revert b d k; decide
theorem rb_inb (d : Fin 2) (s : Fin 3) (k : Fin 4) :
    ∀ a, (![d.val, s.val, 512 * k.val, 0] : Fin 4 → ℕ) a + S1x1x512x2048.size a ≤ S2x3x2048x2048.size a := by
  revert d s k; decide
theorem st_inb (d : Fin 2) (k : Fin 4) :
    ∀ a, (![d.val, 512 * k.val, 0] : Fin 3 → ℕ) a + S1x512x2048.size a ≤ S2x2048x2048.size a := by
  revert d k; decide

/-- Rows `2048 b + 512 k …` of `x`. -/
abbrev xM (b k : Fin 4) : Memref sig .tc .hbm S512x2048 .f32 :=
  xW.slice (Rect.unit (s := S8192x2048) ![2048 * b.val + 512 * k.val, 0] S512x2048.size (x_inb b k)) (fun _ => rfl)
/-- The same rows of the result, columns `2048 d …`. -/
abbrev outM (b : Fin 4) (d : Fin 2) (k : Fin 4) : Memref sig .tc .hbm S512x2048 .f32 :=
  outW.slice (Rect.unit (s := S8192x4096) ![2048 * b.val + 512 * k.val, 2048 * d.val] S512x2048.size (out_inb b d k)) (fun _ => rfl)
/-- Chunk `k` of the landing buffer of direction `d` and step `s`. -/
abbrev rbM (d : Fin 2) (s : Fin 3) (k : Fin 4) : Memref sig .tc .hbm S512x2048 .f32 :=
  (rbW.slice (Rect.unit (s := S2x3x2048x2048) ![d.val, s.val, 512 * k.val, 0] S1x1x512x2048.size (rb_inb d s k)) (fun _ => rfl)).squeeze
    S512x2048 squeezes_S1x1x512x2048_S512x2048
/-- Chunk `k` of the buffer direction `d` first sends from. -/
abbrev stM (d : Fin 2) (k : Fin 4) : Memref sig .tc .hbm S512x2048 .f32 :=
  (stW.slice (Rect.unit (s := S2x2048x2048) ![d.val, 512 * k.val, 0] S1x512x2048.size (st_inb d k)) (fun _ => rfl)).squeeze
    S512x2048 squeezes_S1x512x2048_S512x2048

/-- What slot `(s, d, k)` reads on device `c`, -/
def srcM (c : Dev nD) (s : Fin 6) (d : Fin 2) (k : Fin 4) : Memref sig .tc .hbm S512x2048 .f32 :=
  match s with
  | 0 => stM d k
  | 1 => rbM d 0 k
  | 2 => rbM d 1 k
  | 3 => outM (agB d 0 c) d k
  | 4 => outM (agB d 1 c) d k
  | 5 => outM (agB d 2 c) d k
/-- and where the slot device `c` sends lands on its neighbour. -/
def dstM (c : Dev nD) (s : Fin 6) (d : Fin 2) (k : Fin 4) : Memref sig .tc .hbm S512x2048 .f32 :=
  match s with
  | 0 => rbM d 0 k
  | 1 => rbM d 1 k
  | 2 => rbM d 2 k
  | 3 => outM (agB d 0 c) d k
  | 4 => outM (agB d 1 c) d k
  | 5 => outM (agB d 2 c) d k

/-! ## The cells -/

abbrev Slot : Type := Fin 6 × Fin 2 × Fin 4

def sendNo (σ : Slot) : ℕ := 3 + 12 * σ.2.1.val + 4 * σ.1.val + σ.2.2.val + (if σ.1.val < 3 then 0 else 36)
theorem sendNo_lt (σ : Slot) : sendNo σ + 24 < 99 := by revert σ; decide

def sendS (σ : Slot) : DmaSem sig := ⟨sendNo σ, (Nat.lt_of_le_of_lt (Nat.le_add_right _ 24) (sendNo_lt σ))⟩
def recvS (σ : Slot) : DmaSem sig := ⟨sendNo σ + 24, sendNo_lt σ⟩
abbrev barS : Sem sig := (SemArray.scalar (sig.barrier 0 rfl) : Sems sig S_).sem

abbrev barCell (c : Dev nD) : GSem nD τ sig := ((c : Thread nD τ), .reg barS)
abbrev sendCell (c : Dev nD) (σ : Slot) : GSem nD τ sig := ((c : Thread nD τ), .dma (sendS σ))
abbrev recvCell (c : Dev nD) (σ : Slot) : GSem nD τ sig := ((c : Thread nD τ), .dma (recvS σ))

/-- What a DMA semaphore serves: a slot's receive (`true`) or its send (`false`); nothing if it is a local copy's. -/
def decode (i : DmaSem sig) : Option (Bool × Slot) :=
  if i.val < 3 then none
  else some (decide ((i.val - 3) / 24 % 2 = 1),
    (⟨((i.val - 3) % 12 / 4 + 3 * ((i.val - 3) / 48)) % 6, Nat.mod_lt _ (by decide)⟩,
     ⟨(i.val - 3) % 24 / 12 % 2, Nat.mod_lt _ (by decide)⟩, ⟨(i.val - 3) % 4, Nat.mod_lt _ (by decide)⟩))

theorem decode_send (σ : Slot) : decode (sendS σ) = some (false, σ) := by revert σ; decide
theorem decode_recv (σ : Slot) : decode (recvS σ) = some (true, σ) := by revert σ; decide

theorem sendS_val (σ : Slot) : (sendS σ).val = sendNo σ := rfl
theorem recvS_val (σ : Slot) : (recvS σ).val = sendNo σ + 24 := rfl

attribute [irreducible] sendS recvS decode

/-- The units a transfer of one chunk credits. -/
def N : ℕ := (stM 0 0).view.dmaCredit
theorem N_pos : 0 < N := View.dmaCredit_pos _ (by decide)
theorem credit_st (d k) : (stM d k).view.dmaCredit = N := rfl
theorem credit_rb (d s k) : (rbM d s k).view.dmaCredit = N := rfl
theorem credit_out (b d k) : (outM b d k).view.dmaCredit = N := rfl
theorem credit_src (c s d k) : (srcM c s d k).view.dmaCredit = N := by fin_cases s <;> rfl
theorem credit_dst (c s d k) : (dstM c s d k).view.dmaCredit = N := by fin_cases s <;> rfl

attribute [irreducible] N

/-! ## Contents -/

/-- A chunk's product with a half of the weights. -/
abbrev mm (x : Vec F S512x2048 .f32) (w : Vec F S2048x2048 .f32) : Vec F S512x2048 .f32 := k0_pay1 x w
/-- The running sum with the product added. -/
abbrev mmAdd (x : Vec F S512x2048 .f32) (w : Vec F S2048x2048 .f32) (v : Vec F S512x2048 .f32) : Vec F S512x2048 .f32 := k0_pay3 x w v
/-- The sum completed and rectified. -/
abbrev mmRelu (x : Vec F S512x2048 .f32) (w : Vec F S2048x2048 .f32) (v : Vec F S512x2048 .f32) : Vec F S512x2048 .f32 := k0_pay6 (k0_pay5 x w) v

theorem w_inb (d : Fin 2) : ∀ a, (![0, 2048 * d.val] : Fin 2 → ℕ) a + S2048x2048.size a ≤ S2048x4096.size a := by revert d; decide
abbrev wR (d : Fin 2) : Rect S2048x4096 := Rect.unit (s := S2048x4096) ![0, 2048 * d.val] S2048x2048.size (w_inb d)

/-- Device `c`'s weights as launched, and its chunk `(b, k)` of `x`; the half of the weights direction `d` uses. -/
def wFull (c : Dev nD) : Vec F S2048x4096 .f32 := m ((c : Thread nD τ).loc main_arg1)
def xc (c : Dev nD) (b k : Fin 4) : Vec F S512x2048 .f32 := (xM b k).view.read (Elt F) (m ((c : Thread nD τ).loc main_arg0))
def wc (c : Dev nD) (d : Fin 2) : Vec F S2048x2048 .f32 := fun j => wFull m c ((wR d).emb j)

/-- The partial sum device `c` sends at reduce-scatter step `s`. -/
def rsV (d : Fin 2) : ℕ → Dev nD → Fin 4 → Vec F S512x2048 .f32
  | 0, c, k => mm (xc m c (blk d 0 c) k) (wc m c d)
  | s + 1, c, k => mmAdd (xc m c (blk d (s + 1) c) k) (wc m c d) (rsV d s (src d c) k)
/-- The result's chunk `k` of block `b`, half `d`: finished on device `b`. -/
def finV (d : Fin 2) (b : Dev nD) (k : Fin 4) : Vec F S512x2048 .f32 :=
  mmRelu (xc m b (blk d 3 b) k) (wc m b d) (rsV m d 2 (src d b) k)
/-- What slot `(s, d, k)` carries from device `c`. -/
def slotV (c : Dev nD) (s : Fin 6) (d : Fin 2) (k : Fin 4) : Vec F S512x2048 .f32 :=
  match s with
  | 0 => rsV m d 0 c k
  | 1 => rsV m d 1 c k
  | 2 => rsV m d 2 c k
  | 3 => finV m d (agB d 0 c) k
  | 4 => finV m d (agB d 1 c) k
  | 5 => finV m d (agB d 2 c) k

/-! ## The schedule -/

/-- A chunk-sized memref of device `c` held whole at `X`; at any contents. -/
abbrev own (c : Dev nD) {sp : Space} {sh : Shape} (M : Memref sig .tc sp sh .f32) (X : sh.Idx → Elt F .f32) : sProp 𝕄 :=
  owns (c : Thread nD τ) M fullShare X
abbrev ownE (c : Dev nD) {sp : Space} {sh : Shape} (M : Memref sig .tc sp sh .f32) : sProp 𝕄 :=
  iprop(∃ X, own c M X)

/-- The places on device `dst d c` that device `c` writes. -/
def slotsAt (d : Fin 2) (c : Dev nD) : sProp 𝕄 :=
  bigSep (Finset.univ : Finset (Fin 6 × Fin 4)) fun sk => ownE (F := F) (dst d c) (dstM c sk.1 d sk.2)

def dmaPay (c : Dev nD) : Option (Bool × Slot) → sProp 𝕄
  | none => iprop(emp)
  | some (false, (s, d, k)) => own c (srcM c s d k) (slotV m c s d k)
  | some (true, (s, d, k)) => own c (dstM (src d c) s d k) (slotV m (src d c) s d k)

/-- What a cell's duty hands its waiter. The barrier's: the right neighbour (`true`) hands over its landing places of
    direction `0`, the left one (`false`) those of direction `1`. -/
def pay (g : GSem nD τ sig) (b : Bool) : sProp 𝕄 :=
  match g.2 with
  | .reg _ => slotsAt (if b then 0 else 1) g.1.1
  | .dma i => dmaPay m g.1.1 (decode i)

def amt (g : GSem nD τ sig) : ℕ := match g.2 with | .reg _ => 1 | .dma _ => N

def dut (g : GSem nD τ sig) (r : ℕ) : Finset Bool :=
  if r = 0 ∧ g.1.2 = .tc then
    match g.2 with
    | .reg i => if i = barS then Finset.univ else ∅
    | .dma i => if (decode i).isSome then {false} else ∅
  else ∅

def ringRd : Rounds.Schedule (GSem nD τ sig) Bool 𝕄 where
  duties := dut
  unitless _ := False
  amount g _ _ := amt g
  payload g _ b := pay m g b
  amount_pos g _ _ _ := by
    unfold amt; split
    · exact Nat.one_pos
    · exact N_pos

instance slotsAt_storable (d : Fin 2) (c : Dev nD) : BI.Storable (upEmb : UEmb _ 𝕄) (slotsAt (F := F) d c) := by
  unfold slotsAt; infer_instance
instance dmaPay_storable (c : Dev nD) (o : Option (Bool × Slot)) : BI.Storable (upEmb : UEmb _ 𝕄) (dmaPay m c o) := by
  unfold dmaPay; (repeat' split) <;> infer_instance
instance ringRd_payload_storable (g : GSem nD τ sig) (r : ℕ) (b : Bool) :
    BI.Storable (upEmb : UEmb _ 𝕄) ((ringRd m).payload g r b) := by
  show BI.Storable upEmb (pay m g b)
  unfold pay; split <;> infer_instance

section Sched
variable (c : Dev nD) (s : Fin 6) (d : Fin 2) (k : Fin 4) (σ : Slot)

theorem duties_bar : (ringRd m).duties (barCell c) 0 = Finset.univ := by
  show dut (barCell c) 0 = _
  unfold dut; rw [if_pos ⟨rfl, rfl⟩]; exact if_pos rfl
theorem duties_send : (ringRd m).duties (sendCell c σ) 0 = {false} := by
  show dut (sendCell c σ) 0 = _
  unfold dut; rw [if_pos ⟨rfl, rfl⟩]; show (if (decode (sendS σ)).isSome then _ else _) = _; rw [decode_send]; rfl
theorem duties_recv : (ringRd m).duties (recvCell c σ) 0 = {false} := by
  show dut (recvCell c σ) 0 = _
  unfold dut; rw [if_pos ⟨rfl, rfl⟩]; show (if (decode (recvS σ)).isSome then _ else _) = _; rw [decode_recv]; rfl
theorem duties_later (g : GSem nD τ sig) : ∀ r, 1 ≤ r → (ringRd m).duties g r = ∅ := fun r hr => by
  show dut g r = _
  unfold dut; exact if_neg fun h => by omega

theorem amount_bar (b : Bool) : (ringRd m).amount (barCell c) 0 b = 1 := by
  show amt (barCell c) = 1
  unfold amt; rfl
theorem amount_send (b : Bool) : (ringRd m).amount (sendCell c σ) 0 b = N := by
  show amt (sendCell c σ) = N
  unfold amt; rfl
theorem amount_recv (b : Bool) : (ringRd m).amount (recvCell c σ) 0 b = N := by
  show amt (recvCell c σ) = N
  unfold amt; rfl

theorem expect_bar : (ringRd m).expect (barCell c) 0 = 2 := by
  unfold Schedule.expect Schedule.amountOf
  rw [duties_bar, Finset.sum_congr rfl (fun d _ => amount_bar m c d), Finset.sum_const,
    Finset.card_univ, Fintype.card_bool, smul_eq_mul]
/-- A round of one duty expects that duty's units. -/
theorem expect_single (Rd : Rounds.Schedule (GSem nD τ sig) Bool 𝕄) (g : GSem nD τ sig) (n : ℕ) (hd : Rd.duties g 0 = {false})
    (ha : Rd.amount g 0 false = n) : Rd.expect g 0 = n := by
  unfold Schedule.expect Schedule.amountOf; rw [hd, Finset.sum_singleton, ha]
theorem expect_send : (ringRd m).expect (sendCell c σ) 0 = N := expect_single _ _ _ (duties_send m c σ) (amount_send m c σ false)
theorem expect_recv : (ringRd m).expect (recvCell c σ) 0 = N := expect_single _ _ _ (duties_recv m c σ) (amount_recv m c σ false)

theorem pay_dma (i : DmaSem sig) (b : Bool) : pay m ((c : Thread nD τ), .dma i) b = dmaPay m c (decode i) := by
  unfold pay; rfl
theorem payload_send (b : Bool) : (ringRd m).payload (sendCell c (s, d, k)) 0 b = own c (srcM c s d k) (slotV m c s d k) := by
  refine (pay_dma m c _ b).trans ?_
  rw [decode_send, dmaPay]
theorem payload_recv (b : Bool) :
    (ringRd m).payload (recvCell c (s, d, k)) 0 b = own c (dstM (src d c) s d k) (slotV m (src d c) s d k) := by
  refine (pay_dma m c _ b).trans ?_
  rw [decode_recv, dmaPay]

theorem rest_bar : bigSep ((ringRd m).duties (barCell c) 0 \ ∅) (fun b => (ringRd m).payload (barCell c) 0 b)
    = iprop(slotsAt 1 c ∗ slotsAt (F := F) 0 c) := by
  rw [Finset.sdiff_empty, duties_bar, bigSep_univ_eq_bigSepL [false, true] (by decide) (by decide), bigSepL_cons_cons, bigSepL_singleton]
  rfl
theorem rest_single (Rd : Rounds.Schedule (GSem nD τ sig) Bool 𝕄) (g : GSem nD τ sig) (hd : Rd.duties g 0 = {false}) :
    bigSep (Rd.duties g 0 \ ∅) (fun b => Rd.payload g 0 b) = Rd.payload g 0 false := by
  rw [Finset.sdiff_empty, hd, bigSep_singleton]
theorem rest_send : bigSep ((ringRd m).duties (sendCell c (s, d, k)) 0 \ ∅) (fun b => (ringRd m).payload (sendCell c (s, d, k)) 0 b)
    = own c (srcM c s d k) (slotV m c s d k) :=
  (rest_single _ _ (duties_send m c _)).trans (payload_send m c s d k false)
theorem rest_recv : bigSep ((ringRd m).duties (recvCell c (s, d, k)) 0 \ ∅) (fun b => (ringRd m).payload (recvCell c (s, d, k)) 0 b)
    = own c (dstM (src d c) s d k) (slotV m (src d c) s d k) :=
  (rest_single _ _ (duties_recv m c _)).trans (payload_recv m c s d k false)

end Sched

/-! ## What a device owes; the levels -/

/-- The order of the sends: by step, then chunk, then direction. -/
def slotNo (σ : Slot) : ℕ := 2 * (4 * σ.1.val + σ.2.2.val) + σ.2.1.val
def slotOf (n : ℕ) : Slot :=
  (⟨n / 8 % 6, Nat.mod_lt _ (by decide)⟩, ⟨n % 2, Nat.mod_lt _ (by decide)⟩, ⟨n / 2 % 4, Nat.mod_lt _ (by decide)⟩)
theorem slotOf_no (σ : Slot) : slotOf (slotNo σ) = σ := by revert σ; decide
theorem slotNo_lt (σ : Slot) : slotNo σ < 48 := by revert σ; decide
theorem slotNo_of {n : ℕ} (h : n < 48) : slotNo (slotOf n) = n := by
  unfold slotNo slotOf; simp only []; omega

/-- What device `c` still owes the receive cells of its neighbours with `r` sends to go. -/
def owed (c : Dev nD) : ℕ → CellTallies nD τ sig Unit
  | 0 => 0
  | r + 1 => owed c r + tallyAt (recvCell (dst (slotOf (47 - r)).2.1 c) (slotOf (47 - r))) () N
/-- At launch it owes both neighbours' barrier cells a unit besides: the left one's is paid first. -/
def O₁ (c : Dev nD) : CellTallies nD τ sig Unit := owed c 48 + tallyAt (barCell (dst 0 c)) () 1
def O₀ (c : Dev nD) : CellTallies nD τ sig Unit := O₁ c + tallyAt (barCell (dst 1 c)) () 1

def L (g : GSem nD τ sig) : Finset Unit := if g.1.2 = .tc then {()} else ∅
/-- Barrier cells at 1, a receive cell at 2 and its step and chunk, everything else at 0. -/
def lv (g : GSem nD τ sig) (_ : Unit) : ℕ := match g.2 with
  | .reg _ => 1
  | .dma i => match decode i with
    | some (true, σ) => 2 + slotNo σ / 2
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (σ : Slot) : lv (recvCell c σ) () = 2 + slotNo σ / 2 := by
  unfold lv; show (match decode (recvS σ) with | some (true, σ) => 2 + slotNo σ / 2 | _ => 0) = _; rw [decode_recv]
theorem lv_send (c : Dev nD) (σ : Slot) : lv (sendCell c σ) () = 0 := by
  unfold lv; show (match decode (sendS σ) with | some (true, σ) => 2 + slotNo σ / 2 | _ => 0) = _; rw [decode_send]

theorem owed_pos {c : Dev nD} {r : ℕ} {g : GSem nD τ sig} {u : Unit} (hr : r ≤ 48) (h : 0 < owed c r g u) :
    ∃ n, 48 - r ≤ n ∧ n < 48 ∧ g = recvCell (dst (slotOf n).2.1 c) (slotOf n) := by
  induction r with
  | zero => exact absurd h (Nat.lt_irrefl 0)
  | succ r ih =>
    unfold owed at h
    rw [Pi.add_apply, Finsupp.add_apply, tallyAt_apply] at h
    by_cases hg : g = recvCell (dst (slotOf (47 - r)).2.1 c) (slotOf (47 - r)) ∧ u = ()
    · exact ⟨47 - r, by omega, by omega, hg.1⟩
    · rw [if_neg hg, Nat.add_zero] at h
      obtain ⟨n, h1, h2, h3⟩ := ih (by omega) h
      exact ⟨n, by omega, h2, h3⟩

/-- A device owing its last `r` sends may wait on a cell of a level below theirs. -/
theorem mayWait_owed (c : Dev nD) (sm : SemLoc sig) {r : ℕ} (hr : r ≤ 48) (h : lv ((c : Thread nD τ), sm) () < 2 + (48 - r) / 2) :
    (levAts L lv : sProp 𝕄) ⊢ MayWait (c : Thread nD τ) sm () (owed c r) :=
  MayOwe.of_cut (L := L) (lev := lv) (1 + (48 - r) / 2) (fun p hp => by rw [Finset.mem_singleton.mp hp, L_tc]; exact Finset.mem_singleton_self _)
    (fun g u hg => by obtain ⟨n, -, -, rfl⟩ := owed_pos hr hg; rw [L_tc]; exact Finset.mem_singleton_self _)
    (fun p hp => by rw [Finset.mem_singleton.mp hp]; show lv ((c : Thread nD τ), sm) () ≤ _; omega)
    (fun g u hg => by
      obtain ⟨n, h1, h2, rfl⟩ := owed_pos hr hg
      rw [lv_recv, slotNo_of h2]; omega)

end Cert.RingProof

end
-- ==== Proof.Rules.lean ====
/-
# One rule for each kind of effect the kernel has

A local copy that is issued and waited for at once, a transfer to a neighbour, a wait for a neighbour's transfer, a wait
for an own transfer to have left, a load and a store. Each is stated over memrefs and semaphores that EQUAL the
canonical ones of `Common`, so that it applies to the program's own spelling of them.
-/
module

public import proofs.«01_k».proof.Proof.Common

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells together -/

abbrev CIx : Type := Option (Bool × Slot)
def csem : CIx → SemLoc sig
  | none => .reg barS
  | some (false, σ) => .dma (sendS σ)
  | some (true, σ) => .dma (recvS σ)
abbrev kcell (ci : Dev nD × CIx) : GSem nD τ sig := ((ci.1 : Thread nD τ), csem ci.2)

/-- Every cell's invariant under the names `K`, that every cell is at round 0, and the levels. -/
def records (K : Dev nD × CIx → ℕ) : sProp 𝕄 :=
  iprop((bigSep Finset.univ fun ci => cellInv ER (ringRd m) (K ci) (kcell ci))
    ∗ (bigSep Finset.univ fun ci => reached ER (kcell ci) 0) ∗ levAts L lv)

instance records_persistent (K : Dev nD × CIx → ℕ) : BI.Persistent (records m K) := by unfold records; infer_instance

variable (K : Dev nD × CIx → ℕ)

theorem records_inv (ci : Dev nD × CIx) : records m K ⊢ cellInv ER (ringRd m) (K ci) (kcell ci) := by
  unfold records
  iintro ⟨H, -, -⟩
  iapply (show (bigSep Finset.univ fun ci => cellInv ER (ringRd m) (K ci) (kcell ci) : sProp 𝕄) ⊢ cellInv ER (ringRd m) (K ci) (kcell ci) from
    bigSep_elim (Φ := fun ci => cellInv ER (ringRd m) (K ci) (kcell ci)) (Finset.mem_univ ci))
  iexact H
theorem records_reached (ci : Dev nD × CIx) : records m K ⊢ reached ER (kcell ci) 0 := by
  unfold records
  iintro ⟨-, H, -⟩
  iapply (show (bigSep Finset.univ fun ci => reached ER (kcell ci) 0 : sProp 𝕄) ⊢ reached ER (kcell ci) 0 from
    bigSep_elim (Φ := fun ci => reached ER (kcell ci) 0) (Finset.mem_univ ci))
  iexact H
theorem records_lev : records m K ⊢ levAts L lv := by
  unfold records
  iintro ⟨-, -, H⟩
  iexact H

/-- A device's debt, its record of waits left open. -/
abbrev owesE (c : Dev nD) (r : ℕ) : sProp 𝕄 := iprop(∃ W, owes (c : Thread nD τ) (owed c r) W)

/-! ## A local copy -/

/-- The local copies' semaphores. -/
def cpS (i : Fin 3) : DmaSem sig := ⟨i.val, by have := i.isLt; show i.val < 99; omega⟩
abbrev cpVal (c : Dev nD) (i : Fin 3) : sProp 𝕄 := semVal ((c : Thread nD τ), SemLoc.dma (cpS i)) 0

theorem lv_cp (c : Dev nD) (i : Fin 3) : lv ((c : Thread nD τ), SemLoc.dma (cpS i)) () = 0 := by
  unfold lv
  show (match decode (cpS i) with | some (true, σ) => 2 + slotNo σ / 2 | _ => 0) = 0
  rw [show decode (cpS i) = none by unfold decode cpS; exact if_pos i.isLt]

/-- `R` lends the elements the memref places, which read `X`. -/
abbrev Lends (c : Dev nD) {sp : Space} {sh : Shape} (M : Memref sig .tc sp sh .f32) (X : sh.Idx → Elt F .f32) (R : sProp 𝕄) : Prop :=
  R ⊢ iprop(∃ f : Buf (Elt F) (M.view.loc (c : Thread nD τ)), ⌜M.view.read (Elt F) f = X⌝ ∗ (M.view.loc (c : Thread nD τ) ↦[M.view.set]{fullShare} f)
    ∗ ((M.view.loc (c : Thread nD τ) ↦[M.view.set]{fullShare} f) -∗ R))

theorem lends_own (c : Dev nD) {sp : Space} {sh : Shape} (M : Memref sig .tc sp sh .f32) (X : sh.Idx → Elt F .f32) :
    Lends c M X (own c M X) := by
  unfold Lends own owns
  iintro ⟨%f, %hf, H⟩
  iexists f
  isplitr; · ipureintro; exact hf
  isplitl [H]; · iexact H
  iintro H
  iexists f
  isplitr; · ipureintro; exact hf
  iexact H

/-- A whole buffer lends any slice of it. -/
theorem lends_slice (c : Dev nD) {sp : Space} {sh : Shape} (M : Memref sig .tc sp sh .f32) (f : Buf (Elt F) (M.view.loc (c : Thread nD τ))) :
    Lends c M (M.view.read (Elt F) f) (iprop(M.view.loc (c : Thread nD τ) ↦{fullShare} f)) := by
  unfold Lends
  iintro H
  ihave H' := (pointsTo_split_subset (Finset.subset_univ M.view.set)).1 $$ H
  icases H' with ⟨Hs, Hr⟩
  iexists f
  isplitr; · ipureintro; rfl
  isplitl [Hs]; · iexact Hs
  iintro Hs
  iapply (pointsTo_split_subset (Finset.subset_univ M.view.set)).2
  isplitl [Hs] <;> iassumption

theorem wp_copy (c : Dev nD) {spx spd : Space} {sh : Shape} {sm : DmaSem sig} {i : Fin 3}
    {srcP srcC : Memref sig .tc spx sh .f32} {dstP dstC : Memref sig .tc spd sh .f32}
    (hsm : sm = cpS i) (hs : srcP = srcC) (hd : dstP = dstC) (hpos : 0 < sh.numel)
    {R : sProp 𝕄} {X : sh.Idx → Elt F .f32} (hR : Lends c srcC X R) {r : ℕ} (hr : r ≤ 48)
    {hsrc : srcP.view.WordExact} {hdst : dstP.view.WordExact} {hsem : DmaTarget.Typed (nD := nD) (p := (Proc.tc : Proc τ)) spx (.dma sm) (.here dstP)}
    {hsrc' : srcP.view.WordExact} {hdst' : dstP.view.WordExact}
    {α : Type} {Q : α → sProp 𝕄} {k : PUnit → Prog (TpuEff nD τ sig (Elt F) Λ₀ .tc) α} :
    iprop(records m K ∗ R ∗ ownE c dstC ∗ cpVal c i ∗ owesE c r)
      ⊢ iprop((iprop(R ∗ own c dstC X ∗ cpVal c i ∗ owesE c r) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcP (.here dstP) (.dma sm) hsrc hdst hsem) fun _ => .op (.waitDma2 sm srcP dstP hsrc' hdst') k) Q) := by
  subst hsm hs hd
  unfold ownE own owns
  iintro ⟨#Hrec, HR, ⟨%Y, %fd, %hfd, Hd⟩, Hv, ⟨%W, HO⟩⟩ Hk
  ihave HR' := hR $$ HR
  icases HR' with ⟨%fs, %hfs, Hs, Hback⟩
  iapply (Transfers.wp_dmaLocal EC 𝒱₀ (c : Thread nD τ) none (via := .same) (Sd := dstP.view.set) (fd := fd) (fs := fs) ()
    (dstP.view.dmaCredit) rfl (View.dmaCredit_pos _ hpos) subset_rfl) $$ [Hs Hd Hv]
  · isplitl [Hs]; · iexact Hs
    isplitl [Hd] <;> iassumption
  iintro Hfl
  iapply (Transfers.wp_waitLocalO EC 𝒱₀ (c : Thread nD τ) none () (hN := rfl) (O := owed c r) (W := W)) $$ [Hfl HO]
  · isplitl [Hfl]; · iexact Hfl
    isplitl [HO]; · iexact HO
    iapply (mayWait_owed c _ hr (by rw [lv_cp]; omega))
    iapply (records_lev m K); iexact Hrec
  iintro ⟨⟨Hd, Hs⟩, Hv, HO⟩
  iapply Hk
  isplitl [Hs Hback]; · iapply Hback; iexact Hs
  isplitl [Hd]
  · iexists _
    isplitr
    · ipureintro; exact (View.read_write_univ fd (srcP.view.read (Elt F) fs)).trans hfs
    iexact Hd
  isplitl [Hv]; · iexact Hv
  iexists _; iexact HO

/-! ## Transfers between devices -/

/-- What device `c` needs to send a slot: the duty tokens of its send cell and of the neighbour's receive cell, and the
    place it writes. -/
def sendR (c : Dev nD) (s : Fin 6) (d : Fin 2) (k : Fin 4) : sProp 𝕄 :=
  iprop(dutyTok ER (sendCell c (s, d, k)) 0 false ∗ dutyTok ER (recvCell (dst d c) (s, d, k)) 0 false
    ∗ ownE (F := F) (dst d c) (dstM c s d k))
/-- What it needs to wait for a slot to land, -/
def recvR (c : Dev nD) (s : Fin 6) (d : Fin 2) (k : Fin 4) : sProp 𝕄 :=
  iprop(cred (tallyAt (recvCell c (s, d, k)) () N) ∗ atPos ER (recvCell c (s, d, k)) 0 ∅ 0)
/-- and to have left, once it is sent. -/
def credS (c : Dev nD) (s : Fin 6) (d : Fin 2) (k : Fin 4) : sProp 𝕄 := cred (tallyAt (sendCell c (s, d, k)) () N)
def posS (c : Dev nD) (s : Fin 6) (d : Fin 2) (k : Fin 4) : sProp 𝕄 := atPos ER (sendCell c (s, d, k)) 0 ∅ 0

theorem own_write (c : Dev nD) {sp : Space} {sh : Shape} (M : Memref sig .tc sp sh .f32) (f : Buf (Elt F) (M.view.loc (c : Thread nD τ)))
    (X : sh.Idx → Elt F .f32) :
    (M.view.loc (c : Thread nD τ) ↦[M.view.set]{fullShare} (M.view.write (Elt F) f X Finset.univ)) ⊢ (own c M X : sProp 𝕄) := by
  unfold own owns
  iintro H
  iexists _
  isplitr
  · ipureintro; exact View.read_write_univ f X
  iexact H
theorem own_read (c : Dev nD) {sp : Space} {sh : Shape} (M : Memref sig .tc sp sh .f32) (f : Buf (Elt F) (M.view.loc (c : Thread nD τ))) :
    (M.view.loc (c : Thread nD τ) ↦[M.view.set]{fullShare} f) ⊢ (own c M (M.view.read (Elt F) f) : sProp 𝕄) := by
  unfold own owns
  iintro H
  iexists _
  isplitr
  · ipureintro; rfl
  iexact H

theorem owed_succ (c : Dev nD) {r : ℕ} {s : Fin 6} {d : Fin 2} {k : Fin 4} (hr : slotOf (47 - r) = (s, d, k)) :
    owed c (r + 1) = owed c r + tallyAt (recvCell (dst d c) (s, d, k)) () N := by
  show owed c r + tallyAt (recvCell (dst (slotOf (47 - r)).2.1 c) (slotOf (47 - r))) () N = _
  rw [hr]

/-- A transfer, at any memrefs and semaphores whose cells' duties are of its amount and take what it hands over. -/
theorem wp_sendRaw (c c' : Dev nD) {κ₁ κ₂ : ℕ} {srcP dstP : Memref sig .tc .hbm S512x2048 .f32} {sS sR : DmaSem sig}
    {X : Vec F S512x2048 .f32}
    (hd₁ : false ∈ (ringRd m).duties ((c : Thread nD τ), .dma sS) 0) (hd₂ : false ∈ (ringRd m).duties ((c' : Thread nD τ), .dma sR) 0)
    (hk₁ : (ringRd m).amount ((c : Thread nD τ), .dma sS) 0 false = N) (hk₂ : (ringRd m).amount ((c' : Thread nD τ), .dma sR) 0 false = N)
    (hN : dstP.view.dmaCredit = N) {O : CellTallies nD τ sig Unit}
    (h₁ : own c srcP X ⊢ (ringRd m).payload ((c : Thread nD τ), .dma sS) 0 false)
    (h₂ : own c' dstP X ⊢ (ringRd m).payload ((c' : Thread nD τ), .dma sR) 0 false)
    {hsc : (dstP : Memref sig (Dev.tc c' : Thread nD τ).2.kind .hbm S512x2048 .f32).view.ref.isScScratch = false}
    {hsrc : srcP.view.WordExact} {hdst : dstP.view.WordExact}
    {hsem : DmaTarget.Typed .hbm (.dma sR) (.remote (Dev.tc c' : Thread nD τ) dstP (.dma sS) hsc)}
    {α : Type} {Q : α → sProp 𝕄} {kk : PUnit → Prog (TpuEff nD τ sig (Elt F) Λ₀ .tc) α} :
    iprop(cellInv ER (ringRd m) κ₁ ((c : Thread nD τ), .dma sS) ∗ cellInv ER (ringRd m) κ₂ ((c' : Thread nD τ), .dma sR)
        ∗ own c srcP X ∗ ownE (F := F) c' dstP ∗ (∃ W, owes (c : Thread nD τ) (O + tallyAt ((c' : Thread nD τ), .dma sR) () N) W)
        ∗ dutyTok ER ((c : Thread nD τ), .dma sS) 0 false ∗ reached ER ((c : Thread nD τ), .dma sS) 0
        ∗ dutyTok ER ((c' : Thread nD τ), .dma sR) 0 false ∗ reached ER ((c' : Thread nD τ), .dma sR) 0)
      ⊢ iprop((iprop(cred (tallyAt ((c : Thread nD τ), .dma sS) () N) ∗ ∃ W, owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma srcP (.remote (Dev.tc c' : Thread nD τ) dstP (.dma sS) hsc) (.dma sR) hsrc hdst hsem) kk) Q) := by
  unfold ownE own owns
  iintro ⟨Hi1, Hi2, ⟨%fs, %hfs, Hs⟩, ⟨%Y, %fd, %hfd, Hd⟩, ⟨%W, HO⟩, Ht1, Hr1, Ht2, Hr2⟩ Hk
  iapply (Rounds.wp_send_pointsTo 𝒱₀ ER (ringRd m) (c : Thread nD τ) none (κ₁ := κ₁) (κ₂ := κ₂)
    (r₁ := 0) (r₂ := 0) (d₁ := false) (d₂ := false) (c' := (c' : Thread nD τ)) (src := srcP) (dst := dstP) (fs := fs) (fd := fd)
    hd₁ hd₂ () () N hN hk₁ hk₂ O rfl (W := W)
    (by subst hfs; exact (own_read c srcP fs).trans h₁)
    (by subst hfs; exact (own_write c' dstP fd _).trans h₂)) $$ [Hi1 Hi2 Hs Hd HO Ht1 Hr1 Ht2 Hr2]
  · iframe Hi1 Hi2 Hs Hd HO Ht1 Hr1 Ht2 Hr2
  iintro ⟨Hc, HO⟩
  iapply Hk
  isplitl [Hc]; · iexact Hc
  iexists W; iexact HO

theorem wp_sendSlot (c : Dev nD) (s : Fin 6) (d : Fin 2) (k : Fin 4) {r : ℕ} (hr : slotOf (47 - r) = (s, d, k))
    {n : Dev nD} {srcP dstP : Memref sig .tc .hbm S512x2048 .f32} {sS sR : DmaSem sig}
    (hn : n = dst d c) (hs : srcP = srcM c s d k) (hd : dstP = dstM c s d k) (hsS : sS = sendS (s, d, k)) (hsR : sR = recvS (s, d, k))
    {X : Vec F S512x2048 .f32} (hX : X = slotV m c s d k)
    {hsc : (dstP : Memref sig (Dev.tc n : Thread nD τ).2.kind .hbm S512x2048 .f32).view.ref.isScScratch = false}
    {hsrc : srcP.view.WordExact} {hdst : dstP.view.WordExact}
    {hsem : DmaTarget.Typed .hbm (.dma sR) (.remote (Dev.tc n : Thread nD τ) dstP (.dma sS) hsc)}
    {α : Type} {Q : α → sProp 𝕄} {kk : PUnit → Prog (TpuEff nD τ sig (Elt F) Λ₀ .tc) α} :
    iprop(records m K ∗ own c (srcM c s d k) X ∗ sendR c s d k ∗ owesE c (r + 1))
      ⊢ iprop((iprop(credS c s d k ∗ owesE c r) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma srcP (.remote (Dev.tc n : Thread nD τ) dstP (.dma sS) hsc) (.dma sR) hsrc hdst hsem) kk) Q) := by
  subst hn hs hd hsS hsR hX
  unfold sendR credS
  iintro ⟨#Hrec, Hs, ⟨Ht1, Ht2, Hd⟩, HO⟩ Hk
  iapply (wp_sendRaw m c (dst d c) (κ₁ := K (c, some (false, (s, d, k)))) (κ₂ := K (dst d c, some (true, (s, d, k))))
    (srcP := srcM c s d k) (dstP := dstM c s d k)
    (by rw [duties_send]; exact Finset.mem_singleton_self _) (by rw [duties_recv]; exact Finset.mem_singleton_self _)
    (amount_send m c _ false) (amount_recv m (dst d c) _ false) (credit_dst c s d k) (O := owed c r)
    (Entails.of_eq (payload_send m c s d k false).symm)
    (Entails.of_eq ((congrArg (fun e => own (F := F) (dst d c) (dstM e s d k) (slotV m e s d k)) (src_dst d c)).symm.trans
      (payload_recv m (dst d c) s d k false).symm))) $$ [Hs Hd HO Ht1 Ht2]
  · isplitr; · iapply (records_inv m K (c, some (false, (s, d, k)))); iexact Hrec
    isplitr; · iapply (records_inv m K (dst d c, some (true, (s, d, k)))); iexact Hrec
    isplitl [Hs]; · iexact Hs
    isplitl [Hd]; · iexact Hd
    isplitl [HO]
    · icases HO with ⟨%W, HO⟩
      iexists W
      rw [owed_succ c hr]
      iexact HO
    isplitl [Ht1]; · iexact Ht1
    isplitr; · iapply (records_reached m K (c, some (false, (s, d, k)))); iexact Hrec
    isplitl [Ht2]; · iexact Ht2
    iapply (records_reached m K (dst d c, some (true, (s, d, k)))); iexact Hrec
  iexact Hk

theorem wp_recvSlot (c : Dev nD) (s : Fin 6) (d : Fin 2) (k : Fin 4) {r : ℕ} (hr : r ≤ 48) (hlt : 4 * s.val + k.val < (48 - r) / 2)
    {sm : DmaSem sig} {srcP dstP : Memref sig .tc .hbm S512x2048 .f32} (hsm : sm = recvS (s, d, k)) (hw : dstP.view.dmaCredit = N)
    {hsrc : srcP.view.WordExact} {hdst : dstP.view.WordExact}
    {α : Type} {Q : α → sProp 𝕄} {kk : PUnit → Prog (TpuEff nD τ sig (Elt F) Λ₀ .tc) α} :
    iprop(records m K ∗ recvR c s d k ∗ owesE c r)
      ⊢ iprop((iprop(semVal (recvCell c (s, d, k)) 0 ∗ own c (dstM (src d c) s d k) (slotV m (src d c) s d k) ∗ owesE c r)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm srcP dstP hsrc hdst) kk) Q) := by
  subst hsm
  unfold recvR
  iintro ⟨#Hrec, ⟨Hc, Hat⟩, ⟨%W, HO⟩⟩ Hk
  iapply (Rounds.wp_wait_rest_token 𝒱₀ ER (ringRd m) (c : Thread nD τ) none (κ := K (c, some (true, (s, d, k)))) (k' := N)
      (fun P => (wpE_waitDma2_eq 𝒱₀ (c : Thread nD τ) none Set.univ P).trans (by rw [hw])) (Set.mem_univ _) () (O := owed c r) (W := W) (R := 0) (m := 0) (T := ∅)
      (by rw [Nat.zero_add, expect_recv])) $$ [Hc HO Hat]
  · isplitr; · iapply (records_inv m K (c, some (true, (s, d, k)))); iexact Hrec
    isplitl [Hc]; · iexact Hc
    isplitl [HO]; · iexact HO
    isplitr
    · iapply (mayWait_owed c _ hr (by
        rw [lv_recv]; unfold slotNo; simp only []; have := d.isLt; omega))
      iapply (records_lev m K); iexact Hrec
    iexact Hat
  iintro ⟨HO, Hat, -, Hpay⟩
  ihave Hp := (Entails.of_eq (rest_recv m c s d k)) $$ Hpay
  imod (Rounds.cell_close ER (ringRd m) (Set.mem_univ (K (c, some (true, (s, d, k))))) (fun h => h) (R := 0 + 1)
    (duties_later m (recvCell c (s, d, k)))) $$ [Hat] with Hz
  · isplitr; · iapply (records_inv m K (c, some (true, (s, d, k)))); iexact Hrec
    iexact Hat
  iapply Hk
  isplitl [Hz]; · iexact Hz
  isplitl [Hp]; · iexact Hp
  iexists _; iexact HO

theorem wp_drainSlot (c : Dev nD) (s : Fin 6) (d : Fin 2) (k : Fin 4)
    {sm : DmaSem sig} {srcP dstP : Memref sig .tc .hbm S512x2048 .f32} (hsm : sm = sendS (s, d, k)) (hw : dstP.view.dmaCredit = N)
    {hsrc : srcP.view.WordExact} {hdst : dstP.view.WordExact}
    {α : Type} {Q : α → sProp 𝕄} {kk : PUnit → Prog (TpuEff nD τ sig (Elt F) Λ₀ .tc) α} :
    iprop(records m K ∗ credS c s d k ∗ posS c s d k ∗ owesE c 0)
      ⊢ iprop((iprop(semVal (sendCell c (s, d, k)) 0 ∗ own c (srcM c s d k) (slotV m c s d k) ∗ owesE c 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm srcP dstP hsrc hdst) kk) Q) := by
  subst hsm
  unfold credS posS
  iintro ⟨#Hrec, Hc, Hat, ⟨%W, HO⟩⟩ Hk
  iapply (Rounds.wp_wait_rest_token 𝒱₀ ER (ringRd m) (c : Thread nD τ) none (κ := K (c, some (false, (s, d, k)))) (k' := N)
      (fun P => (wpE_waitDma2_eq 𝒱₀ (c : Thread nD τ) none Set.univ P).trans (by rw [hw])) (Set.mem_univ _) () (O := owed c 0) (W := W) (R := 0) (m := 0) (T := ∅)
      (by rw [Nat.zero_add, expect_send])) $$ [Hc HO Hat]
  · isplitr; · iapply (records_inv m K (c, some (false, (s, d, k)))); iexact Hrec
    isplitl [Hc]; · iexact Hc
    isplitl [HO]; · iexact HO
    isplitr
    · iapply (mayWait_owed c _ (Nat.zero_le 48) (by rw [lv_send]; omega))
      iapply (records_lev m K); iexact Hrec
    iexact Hat
  iintro ⟨HO, Hat, -, Hpay⟩
  ihave Hp := (Entails.of_eq (rest_send m c s d k)) $$ Hpay
  imod (Rounds.cell_close ER (ringRd m) (Set.mem_univ (K (c, some (false, (s, d, k))))) (fun h => h) (R := 0 + 1)
    (duties_later m (sendCell c (s, d, k)))) $$ [Hat] with Hz
  · isplitr; · iapply (records_inv m K (c, some (false, (s, d, k)))); iexact Hrec
    iexact Hat
  iapply Hk
  isplitl [Hz]; · iexact Hz
  isplitl [Hp]; · iexact Hp
  iexists _; iexact HO

/-! ## Loads and stores -/

theorem wp_loadOwn (c : Dev nD) {sh : Shape} {M : Memref sig .tc .vmem sh .f32} {X : sh.Idx → Elt F .f32} (R : Rect sh)
    {hl : M.view.LoadsAt R.toLoadRect} {α : Type} {Q : α → sProp 𝕄}
    {k : (R.toLoadRect.shape.Idx → Elt F .f32) → Prog (TpuEff nD τ sig (Elt F) Λ₀ .tc) α} :
    own c M X ⊢ iprop((own c M X -∗ wp frame (wpE (defs₀ (F := F)) 𝒱₀ (c : Thread nD τ) none) Set.univ (k (fun j => X (R.emb j))) Q)
      -∗ wp frame (wpE (defs₀ (F := F)) 𝒱₀ (c : Thread nD τ) none) Set.univ (.op (.load M R.toLoadRect hl) k) Q) := by
  unfold own owns
  iintro ⟨%f, %hf, H⟩ Hk
  iapply (wp_load 𝒱₀ (c : Thread nD τ) none Set.univ (m := M) (View.setOn_subset_set _ _)) $$ H
  iintro H
  have e : M.view.readAt (Elt F) R.toLoadRect f = fun j => X (R.emb j) := by subst hf; rfl
  rw [e]
  iapply Hk
  iexists f
  isplitr; · ipureintro; exact hf
  iexact H

theorem full_emb (h : ∀ a, (![0, 0] : Fin 2 → ℕ) a + S512x2048.size a ≤ S512x2048.size a) (j : S512x2048.Idx) :
    (Rect.unit (s := S512x2048) ![0, 0] S512x2048.size h).emb j = j := by
  funext a
  apply Fin.ext
  fin_cases a <;> simp [Rect.emb, Rect.unit]

theorem wp_loadFull (c : Dev nD) {M : Memref sig .tc .vmem S512x2048 .f32} {X : Vec F S512x2048 .f32}
    {h : ∀ a, (![0, 0] : Fin 2 → ℕ) a + S512x2048.size a ≤ S512x2048.size a}
    {hl : M.view.LoadsAt (Rect.unit (s := S512x2048) ![0, 0] S512x2048.size h).toLoadRect} {α : Type} {Q : α → sProp 𝕄}
    {k : Vec F S512x2048 .f32 → Prog (TpuEff nD τ sig (Elt F) Λ₀ .tc) α} :
    own c M X ⊢ iprop((own c M X -∗ wp frame (wpE (defs₀ (F := F)) 𝒱₀ (c : Thread nD τ) none) Set.univ (k X) Q)
      -∗ wp frame (wpE (defs₀ (F := F)) 𝒱₀ (c : Thread nD τ) none) Set.univ
        (.op (.load M (Rect.unit (s := S512x2048) ![0, 0] S512x2048.size h).toLoadRect hl) k) Q) := by
  refine (wp_loadOwn c (M := M) (X := X) (Rect.unit (s := S512x2048) ![0, 0] S512x2048.size h) (hl := hl) (k := k) (Q := Q)).trans ?_
  rw [show (fun j => X ((Rect.unit (s := S512x2048) ![0, 0] S512x2048.size h).emb j)) = X from funext fun j => congrArg X (full_emb h j)]

theorem wp_loadHalf (c : Dev nD) (d : Fin 2) {off : Fin 2 → ℕ} (ho : off = ![0, 2048 * d.val])
    {h : ∀ a, off a + S2048x2048.size a ≤ S2048x4096.size a}
    {hl : wM.view.LoadsAt (Rect.unit (s := S2048x4096) off S2048x2048.size h).toLoadRect} {α : Type} {Q : α → sProp 𝕄}
    {k : Vec F S2048x2048 .f32 → Prog (TpuEff nD τ sig (Elt F) Λ₀ .tc) α} :
    own c wM (wFull m c) ⊢ iprop((own c wM (wFull m c) -∗ wp frame (wpE (defs₀ (F := F)) 𝒱₀ (c : Thread nD τ) none) Set.univ (k (wc m c d)) Q)
      -∗ wp frame (wpE (defs₀ (F := F)) 𝒱₀ (c : Thread nD τ) none) Set.univ
        (.op (.load wM (Rect.unit (s := S2048x4096) off S2048x2048.size h).toLoadRect hl) k) Q) := by
  subst ho
  exact wp_loadOwn c (M := wM) (X := wFull m c) (wR d) (hl := hl) (k := k) (Q := Q)

theorem wp_storeFull (c : Dev nD) {M : Memref sig .tc .vmem S512x2048 .f32} {w : Vec F S512x2048 .f32}
    {h : ∀ a, (![0, 0] : Fin 2 → ℕ) a + S512x2048.size a ≤ S512x2048.size a}
    {hx : (M.access (Rect.unit (s := S512x2048) ![0, 0] S512x2048.size h)).Stores Finset.univ} {hm} {α : Type} {Q : α → sProp 𝕄}
    {k : PUnit → Prog (TpuEff nD τ sig (Elt F) Λ₀ .tc) α} :
    ownE c M ⊢ iprop((own c M w -∗ wp frame (wpE (defs₀ (F := F)) 𝒱₀ (c : Thread nD τ) none) Set.univ (k ⟨⟩) Q)
      -∗ wp frame (wpE (defs₀ (F := F)) 𝒱₀ (c : Thread nD τ) none) Set.univ
        (.op (.store M (Rect.unit (s := S512x2048) ![0, 0] S512x2048.size h) w Finset.univ hx hm) k) Q) := by
  unfold ownE own owns
  iintro ⟨%X, %f, %hf, H⟩ Hk
  iapply (wp_store 𝒱₀ (c : Thread nD τ) none Set.univ (m := M) (S := M.view.set)
    (r := Rect.unit (s := S512x2048) ![0, 0] S512x2048.size h) (Mk := Finset.univ) (by
      refine subset_trans (View.setOn_subset_set _ _) ?_
      exact View.set_slice_subset _ _)) $$ H
  iintro H
  iapply Hk
  iexists _
  isplitr
  · ipureintro
    funext j
    have e := congrFun (View.read_write_univ (v := M.access (Rect.unit (s := S512x2048) ![0, 0] S512x2048.size h)) (Val := Elt F) f w) j
    rw [← e]
    exact congrArg (M.view.read (Elt F) _) (full_emb h j).symm
  iexact H

/-- Reading a buffer whose contents do not matter. -/
theorem wp_loadAny (c : Dev nD) {M : Memref sig .tc .vmem S512x2048 .f32}
    {h : ∀ a, (![0, 0] : Fin 2 → ℕ) a + S512x2048.size a ≤ S512x2048.size a}
    {hl : M.view.LoadsAt (Rect.unit (s := S512x2048) ![0, 0] S512x2048.size h).toLoadRect} {α : Type} {Q : α → sProp 𝕄}
    {p : Prog (TpuEff nD τ sig (Elt F) Λ₀ .tc) α} :
    ownE c M ⊢ iprop((ownE c M -∗ wp frame (wpE (defs₀ (F := F)) 𝒱₀ (c : Thread nD τ) none) Set.univ p Q)
      -∗ wp frame (wpE (defs₀ (F := F)) 𝒱₀ (c : Thread nD τ) none) Set.univ
        (.op (.load M (Rect.unit (s := S512x2048) ![0, 0] S512x2048.size h).toLoadRect hl) fun _ => p) Q) := by
  iintro ⟨%X, H⟩ Hk
  iapply (wp_loadFull c (M := M) (X := X)) $$ H
  iintro H
  iapply Hk
  iexists X; iexact H

end Cert.RingProof

end
-- ==== Proof.Offsets.lean ====
/-
# The program's slices, semaphores and neighbours are the canonical ones

The offsets that the kernel computes from its device and its trip, in closed form; and each slice of an array or of a
semaphore array at such offsets as the memref or the semaphore that `Common` names.
-/
module

public import proofs.«01_k».proof.Proof.Rules

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A trip's chunk and step -/

def ch (n : ℕ) : Fin 4 := ⟨n % 4, Nat.mod_lt _ (by decide)⟩
def hi2 (n : ℕ) : Fin 2 := ⟨n / 4 % 2, Nat.mod_lt _ (by decide)⟩
def hi3 (n : ℕ) : Fin 3 := ⟨n / 4 % 3, Nat.mod_lt _ (by decide)⟩
/-- Step `u + a` of the six. -/
def lo (a u : ℕ) (h : a + u < 6 := by omega) : Fin 6 := ⟨a + u, h⟩

/-! ## Offsets -/

section Offs
variable (c : Dev nD)
theorem off1 : ∀ (c : Dev nD) (t : Fin k0_t1_loop.trips), k0_off1 c t = ![2048 * (blk 0 0 c).val + 512 * (ch t.val).val, 0] := by decide +kernel
theorem off2 : ∀ (t : Fin k0_t1_loop.trips), k0_off2 t = ![0, 512 * (ch t.val).val, 0] := by decide +kernel
theorem off3 : ∀ (t : Fin k0_t1_loop.trips), k0_off3 t = ![0, 0, (ch t.val).val] := by decide +kernel
theorem off4 : ∀ (t : Fin k0_t1_loop.trips), k0_off4 t = ![0, 0, 512 * (ch t.val).val, 0] := by decide +kernel
theorem off5 : ∀ (c : Dev nD) (t : Fin k0_t1_loop.trips), k0_off5 c t = ![2048 * (blk 1 0 c).val + 512 * (ch t.val).val, 0] := by decide +kernel
theorem off6 : ∀ (t : Fin k0_t1_loop.trips), k0_off6 t = ![1, 512 * (ch t.val).val, 0] := by decide +kernel
theorem off7 : ∀ (t : Fin k0_t1_loop.trips), k0_off7 t = ![1, 0, (ch t.val).val] := by decide +kernel
theorem off8 : ∀ (t : Fin k0_t1_loop.trips), k0_off8 t = ![1, 0, 512 * (ch t.val).val, 0] := by decide +kernel
theorem off9 : ∀ (c : Dev nD) (t : Fin k0_t2_loop.trips), k0_off9 c t = ![2048 * (blk 0 (1 + (hi2 t.val).val) c).val + 512 * (ch t.val).val, 0] := by decide +kernel
theorem off10 : ∀ (t : Fin k0_t2_loop.trips), k0_off10 t = ![0, (hi2 t.val).val, (ch t.val).val] := by decide +kernel
theorem off11 : ∀ (t : Fin k0_t2_loop.trips), k0_off11 t = ![0, (hi2 t.val).val, 512 * (ch t.val).val, 0] := by decide +kernel
theorem off12 : ∀ (t : Fin k0_t2_loop.trips), k0_off12 t = ![0, 1 + (hi2 t.val).val, (ch t.val).val] := by decide +kernel
theorem off13 : ∀ (t : Fin k0_t2_loop.trips), k0_off13 t = ![0, 1 + (hi2 t.val).val, 512 * (ch t.val).val, 0] := by decide +kernel
theorem off14 : ∀ (c : Dev nD) (t : Fin k0_t2_loop.trips), k0_off14 c t = ![2048 * (blk 1 (1 + (hi2 t.val).val) c).val + 512 * (ch t.val).val, 0] := by decide +kernel
theorem off15 : ∀ (t : Fin k0_t2_loop.trips), k0_off15 t = ![1, (hi2 t.val).val, (ch t.val).val] := by decide +kernel
theorem off16 : ∀ (t : Fin k0_t2_loop.trips), k0_off16 t = ![1, (hi2 t.val).val, 512 * (ch t.val).val, 0] := by decide +kernel
theorem off17 : ∀ (t : Fin k0_t2_loop.trips), k0_off17 t = ![1, 1 + (hi2 t.val).val, (ch t.val).val] := by decide +kernel
theorem off18 : ∀ (t : Fin k0_t2_loop.trips), k0_off18 t = ![1, 1 + (hi2 t.val).val, 512 * (ch t.val).val, 0] := by decide +kernel
theorem off19 : ∀ (c : Dev nD) (t : Fin k0_t3_loop.trips), k0_off19 c t = ![2048 * (c).val + 512 * (ch t.val).val, 0] := by decide +kernel
theorem off20 : ∀ (t : Fin k0_t3_loop.trips), k0_off20 t = ![0, 2, (ch t.val).val] := by decide +kernel
theorem off21 : ∀ (t : Fin k0_t3_loop.trips), k0_off21 t = ![0, 2, 512 * (ch t.val).val, 0] := by decide +kernel
theorem off22 : ∀ (c : Dev nD) (t : Fin k0_t3_loop.trips), k0_off22 c t = ![2048 * (c).val + 512 * (ch t.val).val, 0] := by decide +kernel
theorem off23 : ∀ (t : Fin k0_t3_loop.trips), k0_off23 t = ![0, 0, (ch t.val).val] := by decide +kernel
theorem off24 : ∀ (c : Dev nD) (t : Fin k0_t3_loop.trips), k0_off24 c t = ![2048 * (c).val + 512 * (ch t.val).val, 0] := by decide +kernel
theorem off25 : ∀ (t : Fin k0_t3_loop.trips), k0_off25 t = ![1, 2, (ch t.val).val] := by decide +kernel
theorem off26 : ∀ (t : Fin k0_t3_loop.trips), k0_off26 t = ![1, 2, 512 * (ch t.val).val, 0] := by decide +kernel
theorem off27 : ∀ (c : Dev nD) (t : Fin k0_t3_loop.trips), k0_off27 c t = ![2048 * (c).val + 512 * (ch t.val).val, 2048] := by decide +kernel
theorem off28 : ∀ (t : Fin k0_t3_loop.trips), k0_off28 t = ![1, 0, (ch t.val).val] := by decide +kernel
theorem off29 : ∀ (c : Dev nD) (t : Fin k0_t3_loop.trips), k0_off29 c t = ![2048 * (c).val + 512 * (ch t.val).val, 2048] := by decide +kernel
theorem off30 : ∀ (t : Fin k0_t4_loop.trips), k0_off30 t = ![0, (hi2 t.val).val, (ch t.val).val] := by decide +kernel
theorem off32 : ∀ (t : Fin k0_t4_loop.trips), k0_off32 t = ![0, 1 + (hi2 t.val).val, (ch t.val).val] := by decide +kernel
theorem off33 : ∀ (c : Dev nD) (t : Fin k0_t4_loop.trips), k0_off33 c t = ![2048 * (agB 0 (1 + (hi2 t.val).val) c).val + 512 * (ch t.val).val, 0] := by decide +kernel
theorem off34 : ∀ (t : Fin k0_t4_loop.trips), k0_off34 t = ![1, (hi2 t.val).val, (ch t.val).val] := by decide +kernel
theorem off36 : ∀ (t : Fin k0_t4_loop.trips), k0_off36 t = ![1, 1 + (hi2 t.val).val, (ch t.val).val] := by decide +kernel
theorem off37 : ∀ (c : Dev nD) (t : Fin k0_t4_loop.trips), k0_off37 c t = ![2048 * (agB 1 (1 + (hi2 t.val).val) c).val + 512 * (ch t.val).val, 2048] := by decide +kernel
theorem off38 : ∀ (t : Fin k0_t5_loop.trips), k0_off38 t = ![0, 2, (ch t.val).val] := by decide +kernel
theorem off40 : ∀ (t : Fin k0_t5_loop.trips), k0_off40 t = ![1, 2, (ch t.val).val] := by decide +kernel
theorem off42 : ∀ (t : Fin k0_t6_loop.trips), k0_off42 t = ![0, (hi3 t.val).val, (ch t.val).val] := by decide +kernel
theorem off45 : ∀ (t : Fin k0_t6_loop.trips), k0_off45 t = ![1, (hi3 t.val).val, (ch t.val).val] := by decide +kernel

end Offs

/-! ## Neighbours -/

theorem dev1 (c : Dev nD) : (⟨k0_dev1 c, k0_dev1_lt c⟩ : Dev nD) = dst 1 c := Fin.ext (k0_dev1_eq c)
theorem dev2 (c : Dev nD) : (⟨k0_dev2 c, k0_dev2_lt c⟩ : Dev nD) = dst 0 c := Fin.ext (k0_dev2_eq c)
theorem dev3 (c : Dev nD) : (⟨k0_dev3 c, k0_dev3_lt c⟩ : Dev nD) = dst 0 c := Fin.ext (k0_dev3_eq c)
theorem dev4 (c : Dev nD) : (⟨k0_dev4 c, k0_dev4_lt c⟩ : Dev nD) = dst 1 c := Fin.ext (k0_dev4_eq c)
theorem dev5 (c : Dev nD) : (⟨k0_dev5 c, k0_dev5_lt c⟩ : Dev nD) = dst 0 c := Fin.ext (k0_dev5_eq c)
theorem dev6 (c : Dev nD) : (⟨k0_dev6 c, k0_dev6_lt c⟩ : Dev nD) = dst 1 c := Fin.ext (k0_dev6_eq c)
theorem dev7 (c : Dev nD) : (⟨k0_dev7 c, k0_dev7_lt c⟩ : Dev nD) = dst 0 c := Fin.ext (k0_dev7_eq c)
theorem dev8 (c : Dev nD) : (⟨k0_dev8 c, k0_dev8_lt c⟩ : Dev nD) = dst 1 c := Fin.ext (k0_dev8_eq c)
theorem dev9 (c : Dev nD) : (⟨k0_dev9 c, k0_dev9_lt c⟩ : Dev nD) = dst 0 c := Fin.ext (k0_dev9_eq c)
theorem dev10 (c : Dev nD) : (⟨k0_dev10 c, k0_dev10_lt c⟩ : Dev nD) = dst 1 c := Fin.ext (k0_dev10_eq c)

/-! ## Slices -/

theorem x_at (b k : Fin 4) {off : Fin 2 → ℕ} (h : off = ![2048 * b.val + 512 * k.val, 0]) {inb}:
    xW.slice (Rect.unit (s := S8192x2048) off S512x2048.size inb) (fun _ => rfl) = xM b k := by subst h; rfl
theorem out_at (b : Fin 4) (d : Fin 2) (k : Fin 4) {off : Fin 2 → ℕ} (h : off = ![2048 * b.val + 512 * k.val, 2048 * d.val]) {inb} :
    outW.slice (Rect.unit (s := S8192x4096) off S512x2048.size inb) (fun _ => rfl) = outM b d k := by subst h; rfl
theorem st_at (d : Fin 2) (k : Fin 4) {off : Fin 3 → ℕ} (h : off = ![d.val, 512 * k.val, 0]) {inb} :
    (stW.slice (Rect.unit (s := S2x2048x2048) off S1x512x2048.size inb) (fun _ => rfl)).squeeze
      S512x2048 squeezes_S1x512x2048_S512x2048 = stM d k := by subst h; rfl
theorem rb_at (d : Fin 2) (s : Fin 3) (k : Fin 4) {off : Fin 4 → ℕ} (h : off = ![d.val, s.val, 512 * k.val, 0]) {inb} :
    (rbW.slice (Rect.unit (s := S2x3x2048x2048) off S1x1x512x2048.size inb) (fun _ => rfl)).squeeze
      S512x2048 squeezes_S1x1x512x2048_S512x2048 = rbM d s k := by subst h; rfl

/-- A transfer of a chunk credits `N`, wherever the chunk lies. -/
theorem credit_any {sp : Space} (M M' : Memref sig .tc sp S512x2048 .f32) (h : M.view.ref = M'.view.ref) : M.view.dmaCredit = M'.view.dmaCredit :=
  congrArg (fun b : Ref sig .tc => b.dmaCredit S512x2048 .f32) h
theorem credit_out_at {off : Fin 2 → ℕ} {inb} :
    (outW.slice (Rect.unit (s := S8192x4096) off S512x2048.size inb) (fun _ => rfl)).view.dmaCredit = N :=
  (credit_any _ (outM 0 0 0) rfl).trans (credit_out 0 0 0)
theorem credit_rb_at {off : Fin 4 → ℕ} {inb} :
    ((rbW.slice (Rect.unit (s := S2x3x2048x2048) off S1x1x512x2048.size inb) (fun _ => rfl)).squeeze
      S512x2048 squeezes_S1x1x512x2048_S512x2048).view.dmaCredit = N :=
  (credit_any _ (rbM 0 0 0) rfl).trans (credit_rb 0 0 0)

/-! ## Semaphores -/

theorem cp_at (i : Fin 3) {off : Fin 1 → ℕ} (h : off = ![i.val]) {inb} :
    ((cc0_scratch4.slice (Rect.unit (s := S3) off S1.size inb)).squeeze S_ squeezes_S1_S_).sem = cpS i := by
  subst h
  revert inb
  revert i
  decide +kernel
theorem rs_send_at (d : Fin 2) (s : Fin 3) (k : Fin 4) {off : Fin 3 → ℕ} (h : off = ![d.val, s.val, k.val]) {inb} :
    ((cc0_scratch5.slice (Rect.unit (s := S2x3x4) off S1x1x1.size inb)).squeeze S_ squeezes_S1x1x1_S_).sem = sendS (lo 0 s.val, d, k) := by
  subst h
  apply Fin.ext
  rw [sendS_val]
  revert d s k
  decide +kernel
theorem rs_recv_at (d : Fin 2) (s : Fin 3) (k : Fin 4) {off : Fin 3 → ℕ} (h : off = ![d.val, s.val, k.val]) {inb} :
    ((cc0_scratch6.slice (Rect.unit (s := S2x3x4) off S1x1x1.size inb)).squeeze S_ squeezes_S1x1x1_S_).sem = recvS (lo 0 s.val, d, k) := by
  subst h
  apply Fin.ext
  rw [recvS_val]
  revert d s k
  decide +kernel
theorem ag_send_at (d : Fin 2) (s : Fin 3) (k : Fin 4) {off : Fin 3 → ℕ} (h : off = ![d.val, s.val, k.val]) {inb} :
    ((cc0_scratch7.slice (Rect.unit (s := S2x3x4) off S1x1x1.size inb)).squeeze S_ squeezes_S1x1x1_S_).sem = sendS (lo 3 s.val, d, k) := by
  subst h
  apply Fin.ext
  rw [sendS_val]
  revert d s k
  decide +kernel
theorem ag_recv_at (d : Fin 2) (s : Fin 3) (k : Fin 4) {off : Fin 3 → ℕ} (h : off = ![d.val, s.val, k.val]) {inb} :
    ((cc0_scratch8.slice (Rect.unit (s := S2x3x4) off S1x1x1.size inb)).squeeze S_ squeezes_S1x1x1_S_).sem = recvS (lo 3 s.val, d, k) := by
  subst h
  apply Fin.ext
  rw [recvS_val]
  revert d s k
  decide +kernel

end Cert.RingProof

end
-- ==== Proof.Trips.lean ====
/-
# A counted loop whose trips each take their own slots

What a device holds besides its slots between two trips, what each slot reads and writes by loop, and one rule for a loop
each of whose trips turns its own resources into what it leaves.
-/
module

public import proofs.«01_k».proof.Proof.Offsets

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

/-! ## Between trips -/

/-- The inputs at their launched contents, the weights loaded, the three work buffers at any contents, and the local
    copies' semaphores at zero. -/
def bufs (c : Dev nD) : sProp 𝕄 :=
  iprop(((c : Thread nD τ).loc main_arg0 ↦{fullShare} m ((c : Thread nD τ).loc main_arg0)) ∗ own c wM (wFull m c)
    ∗ ownE c vaM ∗ ownE c vbM ∗ ownE c vxM ∗ cpVal c 0 ∗ cpVal c 1 ∗ cpVal c 2)

theorem numel_chunk : 0 < S512x2048.numel := by decide

/-- The whole of `x` lends each of its chunks. -/
theorem lends_x (c : Dev nD) (b k : Fin 4) :
    Lends c (xM b k) (xc m c b k) (iprop((c : Thread nD τ).loc main_arg0 ↦{fullShare} m ((c : Thread nD τ).loc main_arg0))) :=
  lends_slice c (xM b k) (m ((c : Thread nD τ).loc main_arg0))

theorem own_any (c : Dev nD) {sp : Space} {sh : Shape} (M : Memref sig .tc sp sh .f32) (X : sh.Idx → Elt F .f32) :
    own c M X ⊢ ownE c M := by
  iintro H
  iexists X; iexact H

/-! ## What a slot reads and writes -/

theorem src_rs (c : Dev nD) (u d : Fin 2) (k : Fin 4) : srcM c (lo 1 u.val) d k = rbM d (Fin.castSucc u) k := by fin_cases u <;> rfl
theorem dst_rs0 (c : Dev nD) (u d : Fin 2) (k : Fin 4) : dstM c (lo 0 u.val) d k = rbM d (Fin.castSucc u) k := by fin_cases u <;> rfl
theorem dst_rs1 (c : Dev nD) (u d : Fin 2) (k : Fin 4) : dstM c (lo 1 u.val) d k = rbM d (Fin.succ u) k := by fin_cases u <;> rfl
theorem val_rs0 (c : Dev nD) (u d : Fin 2) (k : Fin 4) : slotV m c (lo 0 u.val) d k = rsV m d u.val c k := by fin_cases u <;> rfl
theorem val_rs1 (c : Dev nD) (u d : Fin 2) (k : Fin 4) : slotV m c (lo 1 u.val) d k
    = mmAdd (xc m c (blk d (1 + u.val) c) k) (wc m c d) (slotV m (src d c) (lo 0 u.val) d k) := by fin_cases u <;> rfl
theorem val_fin (c : Dev nD) (d : Fin 2) (k : Fin 4) : slotV m c 3 d k
    = mmRelu (xc m c c k) (wc m c d) (slotV m (src d c) 2 d k) := by
  show finV m d (agB d 0 c) k = _
  rw [agB_zero]
  show mmRelu (xc m c (blk d 3 c) k) _ _ = _
  rw [blk_three]
  rfl
theorem src_fin (c : Dev nD) (d : Fin 2) (k : Fin 4) : srcM c 3 d k = outM c d k := by
  show outM (agB d 0 c) d k = _
  rw [agB_zero]
theorem dst_fin (c : Dev nD) (d : Fin 2) (k : Fin 4) : dstM c 3 d k = outM c d k := src_fin c d k
theorem src_ag (c : Dev nD) (u d : Fin 2) (k : Fin 4) : srcM c (lo 4 u.val) d k = outM (agB d (1 + u.val) c) d k := by fin_cases u <;> rfl
theorem dst_ag (c : Dev nD) (u d : Fin 2) (k : Fin 4) : dstM c (lo 4 u.val) d k = outM (agB d (1 + u.val) c) d k := by fin_cases u <;> rfl
theorem dst_ag0 (c : Dev nD) (u d : Fin 2) (k : Fin 4) : dstM (src d c) (lo 3 u.val) d k = srcM c (lo 4 u.val) d k := by
  fin_cases u
  · show outM (agB d 0 (src d c)) d k = outM (agB d 1 c) d k
    rw [agB_src]
  · show outM (agB d 1 (src d c)) d k = outM (agB d 2 c) d k
    rw [agB_src]
theorem val_ag0 (c : Dev nD) (u d : Fin 2) (k : Fin 4) : slotV m (src d c) (lo 3 u.val) d k = slotV m c (lo 4 u.val) d k := by
  fin_cases u
  · show finV m d (agB d 0 (src d c)) k = finV m d (agB d 1 c) k
    rw [agB_src]
  · show finV m d (agB d 1 (src d c)) k = finV m d (agB d 2 c) k
    rw [agB_src]

/-- The slot a number names. -/
theorem slotOf_at {n : ℕ} (s : Fin 6) (d : Fin 2) (k : Fin 4) (h : n = 2 * (4 * s.val + k.val) + d.val) : slotOf n = (s, d, k) := by
  subst h
  exact slotOf_no (s, d, k)

/-! ## The loop -/

/-- A family over the trips, of which one trip's member is taken out and put back changed. -/
theorem trips_at {n : ℕ} (Pre Post : Fin n → sProp 𝕄) (i : Fin n) :
    (bigSep Finset.univ fun j : Fin n => if j.val < i.val then Post j else Pre j)
      ⊢ iprop(Pre i ∗ (Post i -∗ bigSep Finset.univ fun j : Fin n => if j.val < i.val + 1 then Post j else Pre j)) := by
  rw [bigSep_univ_at (fun j : Fin n => if j.val < i.val then Post j else Pre j) i,
    bigSep_univ_at (fun j : Fin n => if j.val < i.val + 1 then Post j else Pre j) i,
    if_neg (Nat.lt_irrefl _), if_pos (Nat.lt_succ_self _)]
  rw [show bigSep (Finset.univ.erase i) (fun j : Fin n => if j.val < i.val + 1 then Post j else Pre j)
      = bigSep (Finset.univ.erase i) (fun j : Fin n => if j.val < i.val then Post j else Pre j) from
    bigSep_congr fun j hj => by
      have hne : j.val ≠ i.val := fun h => (Finset.mem_erase.mp hj).1 (Fin.ext h)
      by_cases h : j.val < i.val
      · rw [if_pos h, if_pos (by omega)]
      · rw [if_neg h, if_neg (by omega)]]
  iintro ⟨H, Hr⟩
  isplitl [H]; · iexact H
  iintro H
  isplitl [H] <;> iassumption

/-- A loop whose trip `i` takes `Pre i` and leaves `Post i`, with `ow i` sends still owed before it. -/
theorem wp_trips (c : Dev nD) (l : Scf.Loop 32) (hok : l.OK) (body : Fin l.trips → Unit → Prog (TpuEff nD τ sig (Elt F) Λ₀ .tc) Unit)
    (ow : ℕ → ℕ) (Pre Post : Fin l.trips → sProp 𝕄)
    (hbody : ∀ i : Fin l.trips, iprop(records m K ∗ bufs m c ∗ owesE c (ow i.val) ∗ Pre i)
      ⊢ wp frame (wpE (defs₀ (F := F)) 𝒱₀ (c : Thread nD τ) none) Set.univ (body i ())
          (fun _ => iprop(bufs m c ∗ owesE c (ow (i.val + 1)) ∗ Post i)))
    {α : Type} {Q : α → sProp 𝕄} {kk : Unit → Prog (TpuEff nD τ sig (Elt F) Λ₀ .tc) α} :
    iprop(records m K ∗ bufs m c ∗ owesE c (ow 0) ∗ bigSep Finset.univ Pre)
      ⊢ iprop((iprop(bufs m c ∗ owesE c (ow l.trips) ∗ bigSep Finset.univ Post)
            -∗ wp frame (wpE (defs₀ (F := F)) 𝒱₀ (c : Thread nD τ) none) Set.univ (kk ()) Q)
          -∗ wp frame (wpE (defs₀ (F := F)) 𝒱₀ (c : Thread nD τ) none) Set.univ (Scf.Loop.for l hok () body >>= kk) Q) := by
  iintro ⟨#Hrec, Hb, HO, HP⟩ Hk
  iapply (Scf.wp_for_bind frame (wpE (defs₀ (F := F)) 𝒱₀ (c : Thread nD τ) none) Set.univ l.lb l.ub l.st hok () body
    (fun i _ => iprop(records m K ∗ bufs m c ∗ owesE c (ow i) ∗ bigSep Finset.univ fun j : Fin l.trips => if j.val < i then Post j else Pre j))
    (fun i acc => by
      iintro ⟨#Hrec, Hb, HO, HP⟩
      ihave H := (trips_at Pre Post i) $$ HP
      icases H with ⟨HPre, Hback⟩
      iapply (wp_wand frame (wpE (defs₀ (F := F)) 𝒱₀ (c : Thread nD τ) none) Set.univ
        (Q := fun _ => iprop(bufs m c ∗ owesE c (ow (i.val + 1)) ∗ Post i))) $$ [Hb HO HPre]
      · iapply (hbody i)
        iframe Hrec Hb HO HPre
      iintro %v ⟨Hb, HO, HPost⟩
      isplitr; · iexact Hrec
      iframe Hb HO
      iapply Hback; iexact HPost)) $$ [Hb HO HP]
  · isplitr; · iexact Hrec
    iframe Hb HO
    iexact HP
  iintro %acc ⟨-, Hb, HO, HP⟩
  iapply Hk
  iframe Hb HO
  iapply (Entails.of_eq (bigSep_congr (s := Finset.univ) (fun (j : Fin l.trips) _ =>
    show (if j.val < l.trips then Post j else Pre j) = Post j from if_pos j.isLt))) $$ HP

end Cert.RingProof

end
-- ==== Proof.Trip2.lean ====
/- A trip of the middle stages: receive, add, send on. -/

module

public import proofs.«01_k».proof.Proof.Trips

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

theorem hi2_ch : ∀ n : ℕ, n < 8 → 4 * (hi2 n).val + (ch n).val = n := by
  intro n hn
  show 4 * (n / 4 % 2) + n % 4 = n
  omega

/-- Two names of one buffer own the same. -/
theorem own_eq (c : Dev nD) {sp : Space} {sh : Shape} {M M' : Memref sig .tc sp sh .f32} (h : M = M') (X : sh.Idx → Elt F .f32) :
    own c M X ⊢ own c M' X := by
  rw [h]

/-! ## The next stage of a slot -/

theorem lo_up (a : ℕ) (h : a + 2 < 6) (u : Fin 2) : lo a (Fin.succ u).val = lo (a + 1) u.val :=
  Fin.ext (show a + (u.val + 1) = a + 1 + u.val by omega)

theorem rb_up (d u : Fin 2) (k : Fin 4) {off : Fin 4 → ℕ} (h : off = ![d.val, 1 + u.val, 512 * k.val, 0]) {inb} :
    (rbW.slice (Rect.unit (s := S2x3x2048x2048) off S1x1x512x2048.size inb) (fun _ => rfl)).squeeze S512x2048 squeezes_S1x1x512x2048_S512x2048
      = rbM d (Fin.succ u) k :=
  rb_at d (Fin.succ u) k (h.trans (by rw [Nat.add_comm 1]; rfl))

theorem rs_send_up (d u : Fin 2) (k : Fin 4) {off : Fin 3 → ℕ} (h : off = ![d.val, 1 + u.val, k.val]) {inb} :
    ((cc0_scratch5.slice (Rect.unit (s := S2x3x4) off S1x1x1.size inb)).squeeze S_ squeezes_S1x1x1_S_).sem = sendS (lo 1 u.val, d, k) :=
  (rs_send_at d (Fin.succ u) k (h.trans (by rw [Nat.add_comm 1]; rfl))).trans
    (congrArg (fun s => sendS (s, d, k)) (lo_up 0 (by omega) u))

theorem rs_recv_up (d u : Fin 2) (k : Fin 4) {off : Fin 3 → ℕ} (h : off = ![d.val, 1 + u.val, k.val]) {inb} :
    ((cc0_scratch6.slice (Rect.unit (s := S2x3x4) off S1x1x1.size inb)).squeeze S_ squeezes_S1x1x1_S_).sem = recvS (lo 1 u.val, d, k) :=
  (rs_recv_at d (Fin.succ u) k (h.trans (by rw [Nat.add_comm 1]; rfl))).trans
    (congrArg (fun s => recvS (s, d, k)) (lo_up 0 (by omega) u))

/-! ## A trip -/

/-- What a middle trip takes for one direction: what a send and a receipt need. -/
def pre2 (c : Dev nD) (d u : Fin 2) (k : Fin 4) : sProp 𝕄 :=
  iprop(sendR (F := F) c (lo 1 u.val) d k ∗ recvR (F := F) c (lo 0 u.val) d k)
/-- What it leaves: the credit of the send, and the receiving semaphore back at 0. -/
def post2 (c : Dev nD) (d u : Fin 2) (k : Fin 4) : sProp 𝕄 :=
  iprop(credS (F := F) c (lo 1 u.val) d k ∗ semVal (recvCell c (lo 0 u.val, d, k)) 0)

/-- A trip of the middle stages: receive a partial sum, add this device's product, send it on. -/
theorem trip2 (c : Dev nD) {h0 h1 h2 h3 h4 h5 h6 h7 h8} (v2 v4 v7 : BitVec 32) (t : Fin k0_t2_loop.trips) :
    iprop(records m K ∗ bufs m c ∗ owesE c (40 - 2 * t.val) ∗ pre2 c 0 (hi2 t.val) (ch t.val) ∗ pre2 c 1 (hi2 t.val) (ch t.val))
      ⊢ wp frame (wpE (defs₀ (F := F)) 𝒱₀ (c : Thread nD τ) none) Set.univ
          (k0_t2_body xW h0 (Memref.whole main_arg1) h1 outW h2 rbW h3 stW h4 wM h5 vaM h6 vbM h7 vxM h8
            cc0_scratch4 cc0_scratch5 cc0_scratch6 cc0_scratch7 cc0_scratch8 c v2 v4 v7 t ())
          (fun _ => iprop(bufs m c ∗ owesE c (40 - 2 * (t.val + 1)) ∗ post2 c 0 (hi2 t.val) (ch t.val) ∗ post2 c 1 (hi2 t.val) (ch t.val))) := by
  have ht : t.val < 8 := t.isLt
  have hk : 4 * (hi2 t.val).val + (ch t.val).val = t.val := hi2_ch t.val ht
  obtain ⟨r, hr⟩ : ∃ r, 40 - 2 * t.val = r + 1 + 1 := ⟨38 - 2 * t.val, by omega⟩
  have hr' : 40 - 2 * (t.val + 1) = r := by omega
  rw [hr, hr']
  unfold k0_t2_body
  simp only [k0_part3_eq_skeleton, k0_part4_eq_skeleton, k0_part5_eq_skeleton, k0_part6_eq_skeleton]
  unfold k0_part3_skel k0_part4_skel k0_part5_skel k0_part6_skel
  simp only [Prog.lift, Prog.bind_op, Prog.bind_ret, Prog.pure_eq_ret]
  unfold bufs pre2 post2
  iintro ⟨#Hrec, ⟨Hx, Hw, Ha, Hb, Hvx, Hc0, Hc1, Hc2⟩, HO, ⟨HS0, HR0⟩, ⟨HS1, HR1⟩⟩
  iapply (wp_copy m K c (cp_at 2 rfl) (x_at _ _ (off9 c t)) rfl numel_chunk (lends_x m c (blk 0 (1 + (hi2 t.val).val) c) (ch t.val)) (r := r + 1 + 1) (by omega)) $$ [Hx Hvx Hc2 HO]
  · iframe Hrec Hx Hvx Hc2 HO
  iintro ⟨Hx, Hvx, Hc2, HO⟩
  iapply (wp_loadFull c) $$ Hvx
  iintro Hvx
  iapply (wp_loadHalf m c 0 rfl) $$ Hw
  iintro Hw
  iapply (wp_recvSlot m K c (lo 0 (hi2 t.val).val) 0 (ch t.val) (r := r + 1 + 1) (by omega) (by simp only [lo]; omega)
    (rs_recv_at 0 (Fin.castSucc (hi2 t.val)) (ch t.val) (off10 t)) credit_rb_at) $$ [HR0 HO]
  · iframe Hrec HR0 HO
  iintro ⟨Hv0, Hrb, HO⟩
  ihave Hrb := (own_eq c (dst_rs0 (src 0 c) (hi2 t.val) 0 (ch t.val)) _) $$ Hrb
  iapply (wp_copy m K c (cp_at 1 rfl) (rb_at 0 (Fin.castSucc (hi2 t.val)) (ch t.val) (off11 t)) rfl numel_chunk (lends_own c (rbM 0 (Fin.castSucc (hi2 t.val)) (ch t.val)) _)
    (r := r + 1 + 1) (by omega)) $$ [Hrb Hb Hc1 HO]
  · iframe Hrec Hrb Hb Hc1 HO
  iintro ⟨Hrb, Hb, Hc1, HO⟩
  ihave Hrb := (own_any c (rbM 0 (Fin.castSucc (hi2 t.val)) (ch t.val)) _) $$ Hrb
  iapply (wp_loadFull c) $$ Hb
  iintro Hb
  iapply (wp_loadAny c) $$ Ha
  iintro Ha
  iapply (wp_storeFull c) $$ Ha
  iintro Ha
  iapply (wp_copy m K c (cp_at 0 rfl) rfl (rb_at 0 (Fin.castSucc (hi2 t.val)) (ch t.val) (off11 t)) numel_chunk (lends_own c vaM _) (r := r + 1 + 1) (by omega)) $$ [Ha Hrb Hc0 HO]
  · iframe Hrec Ha Hrb Hc0 HO
  iintro ⟨Ha, Hrb, Hc0, HO⟩
  ihave Hrb := (own_eq c (src_rs c (hi2 t.val) 0 (ch t.val)).symm _) $$ Hrb
  iapply (wp_sendSlot m K c (lo 1 (hi2 t.val).val) 0 (ch t.val) (r := r + 1) (slotOf_at _ 0 _ (by simp [lo]; omega)) (dev5 c)
    ((rb_at 0 (Fin.castSucc (hi2 t.val)) (ch t.val) (off11 t)).trans (src_rs c (hi2 t.val) 0 (ch t.val)).symm)
    ((rb_up 0 (hi2 t.val) (ch t.val) (off13 t)).trans (dst_rs1 c (hi2 t.val) 0 (ch t.val)).symm)
    (rs_send_up 0 (hi2 t.val) (ch t.val) (off12 t)) (rs_recv_up 0 (hi2 t.val) (ch t.val) (off12 t)) (val_rs1 m c (hi2 t.val) 0 (ch t.val)).symm) $$ [Hrb HS0 HO]
  · iframe Hrec Hrb HS0 HO
  iintro ⟨HC0, HO⟩
  ihave Ha := (own_any c vaM _) $$ Ha
  ihave Hb := (own_any c vbM _) $$ Hb
  ihave Hvx := (own_any c vxM _) $$ Hvx
  iapply (wp_copy m K c (cp_at 2 rfl) (x_at _ _ (off14 c t)) rfl numel_chunk (lends_x m c (blk 1 (1 + (hi2 t.val).val) c) (ch t.val)) (r := r + 1) (by omega)) $$ [Hx Hvx Hc2 HO]
  · iframe Hrec Hx Hvx Hc2 HO
  iintro ⟨Hx, Hvx, Hc2, HO⟩
  iapply (wp_loadFull c) $$ Hvx
  iintro Hvx
  iapply (wp_loadHalf m c 1 rfl) $$ Hw
  iintro Hw
  iapply (wp_recvSlot m K c (lo 0 (hi2 t.val).val) 1 (ch t.val) (r := r + 1) (by omega) (by simp only [lo]; omega)
    (rs_recv_at 1 (Fin.castSucc (hi2 t.val)) (ch t.val) (off15 t)) credit_rb_at) $$ [HR1 HO]
  · iframe Hrec HR1 HO
  iintro ⟨Hv1, Hrb, HO⟩
  ihave Hrb := (own_eq c (dst_rs0 (src 1 c) (hi2 t.val) 1 (ch t.val)) _) $$ Hrb
  iapply (wp_copy m K c (cp_at 1 rfl) (rb_at 1 (Fin.castSucc (hi2 t.val)) (ch t.val) (off16 t)) rfl numel_chunk (lends_own c (rbM 1 (Fin.castSucc (hi2 t.val)) (ch t.val)) _)
    (r := r + 1) (by omega)) $$ [Hrb Hb Hc1 HO]
  · iframe Hrec Hrb Hb Hc1 HO
  iintro ⟨Hrb, Hb, Hc1, HO⟩
  ihave Hrb := (own_any c (rbM 1 (Fin.castSucc (hi2 t.val)) (ch t.val)) _) $$ Hrb
  iapply (wp_loadFull c) $$ Hb
  iintro Hb
  iapply (wp_loadAny c) $$ Ha
  iintro Ha
  iapply (wp_storeFull c) $$ Ha
  iintro Ha
  iapply (wp_copy m K c (cp_at 0 rfl) rfl (rb_at 1 (Fin.castSucc (hi2 t.val)) (ch t.val) (off16 t)) numel_chunk (lends_own c vaM _) (r := r + 1) (by omega)) $$ [Ha Hrb Hc0 HO]
  · iframe Hrec Ha Hrb Hc0 HO
  iintro ⟨Ha, Hrb, Hc0, HO⟩
  ihave Hrb := (own_eq c (src_rs c (hi2 t.val) 1 (ch t.val)).symm _) $$ Hrb
  iapply (wp_sendSlot m K c (lo 1 (hi2 t.val).val) 1 (ch t.val) (r := r) (slotOf_at _ 1 _ (by simp [lo]; omega)) (dev6 c)
    ((rb_at 1 (Fin.castSucc (hi2 t.val)) (ch t.val) (off16 t)).trans (src_rs c (hi2 t.val) 1 (ch t.val)).symm)
    ((rb_up 1 (hi2 t.val) (ch t.val) (off18 t)).trans (dst_rs1 c (hi2 t.val) 1 (ch t.val)).symm)
    (rs_send_up 1 (hi2 t.val) (ch t.val) (off17 t)) (rs_recv_up 1 (hi2 t.val) (ch t.val) (off17 t)) (val_rs1 m c (hi2 t.val) 1 (ch t.val)).symm) $$ [Hrb HS1 HO]
  · iframe Hrec Hrb HS1 HO
  iintro ⟨HC1, HO⟩
  ihave Ha := (own_any c vaM _) $$ Ha
  ihave Hb := (own_any c vbM _) $$ Hb
  ihave Hvx := (own_any c vxM _) $$ Hvx
  iapply (le_wp_ret frame (wpE (defs₀ (F := F)) 𝒱₀ (c : Thread nD τ) none) Set.univ)
  iframe Hx Hw Ha Hb Hvx Hc0 Hc1 Hc2 HO HC0 Hv0 HC1 Hv1

end Cert.RingProof

end
-- ==== Proof.Trip456.lean ====
/- The trips of the second half: passing the finished chunks on, the last receipts, the ends of the sends. -/

module

public import proofs.«01_k».proof.Proof.Trip2

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

theorem ag_send_up (d u : Fin 2) (k : Fin 4) {off : Fin 3 → ℕ} (h : off = ![d.val, 1 + u.val, k.val]) {inb} :
    ((cc0_scratch7.slice (Rect.unit (s := S2x3x4) off S1x1x1.size inb)).squeeze S_ squeezes_S1x1x1_S_).sem = sendS (lo 4 u.val, d, k) :=
  (ag_send_at d (Fin.succ u) k (h.trans (by rw [Nat.add_comm 1]; rfl))).trans
    (congrArg (fun s => sendS (s, d, k)) (lo_up 3 (by omega) u))

theorem ag_recv_up (d u : Fin 2) (k : Fin 4) {off : Fin 3 → ℕ} (h : off = ![d.val, 1 + u.val, k.val]) {inb} :
    ((cc0_scratch8.slice (Rect.unit (s := S2x3x4) off S1x1x1.size inb)).squeeze S_ squeezes_S1x1x1_S_).sem = recvS (lo 4 u.val, d, k) :=
  (ag_recv_at d (Fin.succ u) k (h.trans (by rw [Nat.add_comm 1]; rfl))).trans
    (congrArg (fun s => recvS (s, d, k)) (lo_up 3 (by omega) u))

/-! ## Passing the finished chunks on -/

/-- What a forwarding trip takes for one direction. -/
def pre4 (c : Dev nD) (d u : Fin 2) (k : Fin 4) : sProp 𝕄 :=
  iprop(sendR (F := F) c (lo 4 u.val) d k ∗ recvR (F := F) c (lo 3 u.val) d k)
/-- What it leaves. -/
def post4 (c : Dev nD) (d u : Fin 2) (k : Fin 4) : sProp 𝕄 :=
  iprop(credS (F := F) c (lo 4 u.val) d k ∗ semVal (recvCell c (lo 3 u.val, d, k)) 0)

/-- A forwarding trip: receive a finished chunk and send it on. -/
theorem trip4 (c : Dev nD) {h0 h1 h2 h3 h4 h5 h6 h7 h8} (v2 v4 v7 v8 : BitVec 32) (t : Fin k0_t4_loop.trips) :
    iprop(records m K ∗ bufs m c ∗ owesE c (16 - 2 * t.val) ∗ pre4 c 0 (hi2 t.val) (ch t.val) ∗ pre4 c 1 (hi2 t.val) (ch t.val))
      ⊢ wp frame (wpE (defs₀ (F := F)) 𝒱₀ (c : Thread nD τ) none) Set.univ
          (k0_t4_body xW h0 (Memref.whole main_arg1) h1 outW h2 rbW h3 stW h4 wM h5 vaM h6 vbM h7 vxM h8
            cc0_scratch4 cc0_scratch5 cc0_scratch6 cc0_scratch7 cc0_scratch8 c v2 v4 v7 v8 t ())
          (fun _ => iprop(bufs m c ∗ owesE c (16 - 2 * (t.val + 1)) ∗ post4 c 0 (hi2 t.val) (ch t.val) ∗ post4 c 1 (hi2 t.val) (ch t.val))) := by
  have ht : t.val < 8 := t.isLt
  have hk : 4 * (hi2 t.val).val + (ch t.val).val = t.val := hi2_ch t.val ht
  obtain ⟨r, hr⟩ : ∃ r, 16 - 2 * t.val = r + 1 + 1 := ⟨14 - 2 * t.val, by omega⟩
  have hr' : 16 - 2 * (t.val + 1) = r := by omega
  rw [hr, hr']
  unfold k0_t4_body
  simp only [k0_part11_eq_skeleton, k0_part12_eq_skeleton]
  unfold k0_part11_skel k0_part12_skel
  simp only [Prog.lift, Prog.bind_op, Prog.bind_ret, Prog.pure_eq_ret]
  unfold pre4 post4
  iintro ⟨#Hrec, Hbufs, HO, ⟨HS0, HR0⟩, ⟨HS1, HR1⟩⟩
  iapply (wp_recvSlot m K c (lo 3 (hi2 t.val).val) 0 (ch t.val) (r := r + 1 + 1) (by omega) (by simp only [lo]; omega)
    (ag_recv_at 0 (Fin.castSucc (hi2 t.val)) (ch t.val) (off30 t)) credit_out_at) $$ [HR0 HO]
  · iframe Hrec HR0 HO
  iintro ⟨Hv0, Ho, HO⟩
  ihave Ho := (own_eq c (dst_ag0 c (hi2 t.val) 0 (ch t.val)) _) $$ Ho
  iapply (wp_sendSlot m K c (lo 4 (hi2 t.val).val) 0 (ch t.val) (r := r + 1) (slotOf_at _ 0 _ (by simp [lo]; omega)) (dev9 c)
    ((out_at _ 0 (ch t.val) (off33 c t)).trans (src_ag c (hi2 t.val) 0 (ch t.val)).symm)
    ((out_at _ 0 (ch t.val) (off33 c t)).trans (dst_ag c (hi2 t.val) 0 (ch t.val)).symm)
    (ag_send_up 0 (hi2 t.val) (ch t.val) (off32 t)) (ag_recv_up 0 (hi2 t.val) (ch t.val) (off32 t)) (val_ag0 m c (hi2 t.val) 0 (ch t.val))) $$ [Ho HS0 HO]
  · iframe Hrec Ho HS0 HO
  iintro ⟨HC0, HO⟩
  iapply (wp_recvSlot m K c (lo 3 (hi2 t.val).val) 1 (ch t.val) (r := r + 1) (by omega) (by simp only [lo]; omega)
    (ag_recv_at 1 (Fin.castSucc (hi2 t.val)) (ch t.val) (off34 t)) credit_out_at) $$ [HR1 HO]
  · iframe Hrec HR1 HO
  iintro ⟨Hv1, Ho, HO⟩
  ihave Ho := (own_eq c (dst_ag0 c (hi2 t.val) 1 (ch t.val)) _) $$ Ho
  iapply (wp_sendSlot m K c (lo 4 (hi2 t.val).val) 1 (ch t.val) (r := r) (slotOf_at _ 1 _ (by simp [lo]; omega)) (dev10 c)
    ((out_at _ 1 (ch t.val) (off37 c t)).trans (src_ag c (hi2 t.val) 1 (ch t.val)).symm)
    ((out_at _ 1 (ch t.val) (off37 c t)).trans (dst_ag c (hi2 t.val) 1 (ch t.val)).symm)
    (ag_send_up 1 (hi2 t.val) (ch t.val) (off36 t)) (ag_recv_up 1 (hi2 t.val) (ch t.val) (off36 t)) (val_ag0 m c (hi2 t.val) 1 (ch t.val))) $$ [Ho HS1 HO]
  · iframe Hrec Ho HS1 HO
  iintro ⟨HC1, HO⟩
  iapply (le_wp_ret frame (wpE (defs₀ (F := F)) 𝒱₀ (c : Thread nD τ) none) Set.univ)
  iframe Hbufs HO HC0 Hv0 HC1 Hv1

/-! ## The last arrivals, and the sends' ends -/

/-- What the last receipt of a chunk leaves: the semaphore back at 0 and the finished chunk. -/
def post5 (c : Dev nD) (d : Fin 2) (k : Fin 4) : sProp 𝕄 :=
  iprop(semVal (recvCell c (5, d, k)) 0 ∗ own c (dstM (src d c) 5 d k) (slotV m (src d c) 5 d k))

/-- A trip of the last receipts. -/
theorem trip5 (c : Dev nD) {h0 h1 h2 h3 h4 h5 h6 h7 h8} (t : Fin k0_t5_loop.trips) :
    iprop(records m K ∗ bufs m c ∗ owesE c 0 ∗ recvR (F := F) c 5 0 (ch t.val) ∗ recvR (F := F) c 5 1 (ch t.val))
      ⊢ wp frame (wpE (defs₀ (F := F)) 𝒱₀ (c : Thread nD τ) none) Set.univ
          (k0_t5_body xW h0 (Memref.whole main_arg1) h1 outW h2 rbW h3 stW h4 wM h5 vaM h6 vbM h7 vxM h8
            cc0_scratch4 cc0_scratch5 cc0_scratch6 cc0_scratch7 cc0_scratch8 c t ())
          (fun _ => iprop(bufs m c ∗ owesE c 0 ∗ post5 m c 0 (ch t.val) ∗ post5 m c 1 (ch t.val))) := by
  have ht : (ch t.val).val < 4 := (ch t.val).isLt
  unfold k0_t5_body
  simp only [Prog.lift, Prog.bind_op, Prog.bind_ret, Prog.pure_eq_ret]
  unfold post5
  iintro ⟨#Hrec, Hbufs, HO, HR0, HR1⟩
  iapply (wp_recvSlot m K c 5 0 (ch t.val) (r := 0) (by omega) (by simp; omega) (ag_recv_at 0 2 (ch t.val) (off38 t)) credit_out_at) $$ [HR0 HO]
  · iframe Hrec HR0 HO
  iintro ⟨Hv0, Ho0, HO⟩
  iapply (wp_recvSlot m K c 5 1 (ch t.val) (r := 0) (by omega) (by simp; omega) (ag_recv_at 1 2 (ch t.val) (off40 t)) credit_out_at) $$ [HR1 HO]
  · iframe Hrec HR1 HO
  iintro ⟨Hv1, Ho1, HO⟩
  iapply (le_wp_ret frame (wpE (defs₀ (F := F)) 𝒱₀ (c : Thread nD τ) none) Set.univ)
  iframe Hbufs HO Hv0 Ho0 Hv1 Ho1

/-- What the end of a send takes. -/
def pre6 (c : Dev nD) (s : Fin 6) (d : Fin 2) (k : Fin 4) : sProp 𝕄 :=
  iprop(credS (F := F) c s d k ∗ posS (F := F) c s d k)
/-- What it leaves: the semaphore back at 0, and the place that the copy read. -/
def post6 (c : Dev nD) (s : Fin 6) (d : Fin 2) (k : Fin 4) : sProp 𝕄 :=
  iprop(semVal (sendCell c (s, d, k)) 0 ∗ own c (srcM c s d k) (slotV m c s d k))

/-- A trip of the sends' ends: in each direction one copy of the first half and one of the second. -/
theorem trip6 (c : Dev nD) {h0 h1 h2 h3 h4 h5 h6 h7 h8} (v2 : BitVec 32) (t : Fin k0_t6_loop.trips) :
    iprop(records m K ∗ bufs m c ∗ owesE c 0 ∗ pre6 c (lo 0 (hi3 t.val).val) 0 (ch t.val) ∗ pre6 c (lo 3 (hi3 t.val).val) 0 (ch t.val)
        ∗ pre6 c (lo 0 (hi3 t.val).val) 1 (ch t.val) ∗ pre6 c (lo 3 (hi3 t.val).val) 1 (ch t.val))
      ⊢ wp frame (wpE (defs₀ (F := F)) 𝒱₀ (c : Thread nD τ) none) Set.univ
          (k0_t6_body xW h0 (Memref.whole main_arg1) h1 outW h2 rbW h3 stW h4 wM h5 vaM h6 vbM h7 vxM h8
            cc0_scratch4 cc0_scratch5 cc0_scratch6 cc0_scratch7 cc0_scratch8 c v2 t ())
          (fun _ => iprop(bufs m c ∗ owesE c 0 ∗ post6 m c (lo 0 (hi3 t.val).val) 0 (ch t.val) ∗ post6 m c (lo 3 (hi3 t.val).val) 0 (ch t.val)
            ∗ post6 m c (lo 0 (hi3 t.val).val) 1 (ch t.val) ∗ post6 m c (lo 3 (hi3 t.val).val) 1 (ch t.val))) := by
  unfold k0_t6_body
  simp only [k0_part13_eq_skeleton]
  unfold k0_part13_skel
  simp only [Prog.lift, Prog.bind_op, Prog.bind_ret, Prog.pure_eq_ret]
  unfold pre6 post6
  iintro ⟨#Hrec, Hbufs, HO, ⟨HC0, HP0⟩, ⟨HD0, HQ0⟩, ⟨HC1, HP1⟩, ⟨HD1, HQ1⟩⟩
  iapply (wp_drainSlot m K c (lo 0 (hi3 t.val).val) 0 (ch t.val) (rs_send_at 0 (hi3 t.val) (ch t.val) (off42 t)) credit_rb_at) $$ [HC0 HP0 HO]
  · iframe Hrec HC0 HP0 HO
  iintro ⟨HV0, HS0, HO⟩
  iapply (wp_drainSlot m K c (lo 3 (hi3 t.val).val) 0 (ch t.val) (ag_send_at 0 (hi3 t.val) (ch t.val) (off42 t)) credit_out_at) $$ [HD0 HQ0 HO]
  · iframe Hrec HD0 HQ0 HO
  iintro ⟨HW0, HT0, HO⟩
  iapply (wp_drainSlot m K c (lo 0 (hi3 t.val).val) 1 (ch t.val) (rs_send_at 1 (hi3 t.val) (ch t.val) (off45 t)) credit_rb_at) $$ [HC1 HP1 HO]
  · iframe Hrec HC1 HP1 HO
  iintro ⟨HV1, HS1, HO⟩
  iapply (wp_drainSlot m K c (lo 3 (hi3 t.val).val) 1 (ch t.val) (ag_send_at 1 (hi3 t.val) (ch t.val) (off45 t)) credit_out_at) $$ [HD1 HQ1 HO]
  · iframe Hrec HD1 HQ1 HO
  iintro ⟨HW1, HT1, HO⟩
  iapply (le_wp_ret frame (wpE (defs₀ (F := F)) 𝒱₀ (c : Thread nD τ) none) Set.univ)
  iframe Hbufs HO HV0 HS0 HW0 HT0 HV1 HS1 HW1 HT1

end Cert.RingProof

end
-- ==== Proof.Regroup.lean ====
/- The slots' resources, grouped by step and by trip. -/

module

public import proofs.«01_k».proof.Proof.Trip456

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

/-- One resource for each direction and chunk of a step. -/
def St (P : Fin 2 → Fin 4 → sProp 𝕄) : sProp 𝕄 := bigSep Finset.univ fun k : Fin 4 => iprop(P 0 k ∗ P 1 k)

theorem St_congr {P Q : Fin 2 → Fin 4 → sProp 𝕄} (h : ∀ d k, P d k = Q d k) : St P = St Q :=
  congrArg St (funext fun d => funext fun k => h d k)

theorem St_mono {P Q : Fin 2 → Fin 4 → sProp 𝕄} (h : ∀ d k, P d k ⊢ Q d k) : St P ⊢ St Q :=
  bigSep_mono fun k _ => BI.sep_mono (h 0 k) (h 1 k)

/-- Four resources in two pairs, paired across. -/
theorem sep_swap (A B C D : sProp 𝕄) : iprop((A ∗ B) ∗ (C ∗ D)) = iprop((A ∗ C) ∗ (B ∗ D)) := by
  have h : ∀ A B C D : sProp 𝕄, iprop((A ∗ B) ∗ (C ∗ D)) ⊢ (iprop((A ∗ C) ∗ (B ∗ D)) : sProp 𝕄) := fun A B C D => by
    iintro ⟨⟨H1, H2⟩, H3, H4⟩
    iframe H1 H2 H3 H4
  exact BI.equiv_iff.mp ⟨h A B C D, h A C B D⟩

theorem St_sep (P Q : Fin 2 → Fin 4 → sProp 𝕄) : St (fun d k => iprop(P d k ∗ Q d k)) = iprop(St P ∗ St Q) := by
  unfold St
  rw [← bigSep_sep']
  exact bigSep_congr fun k _ => sep_swap _ _ _ _

theorem St_unfold (P : Fin 2 → Fin 4 → sProp 𝕄) : (bigSep Finset.univ fun dk : Fin 2 × Fin 4 => P dk.1 dk.2) = St P := by
  unfold St
  rw [bigSep_univ_prod, bigSep_univ_eq_bigSepL [0, 1] (by decide) (by decide), bigSepL_cons_cons, bigSepL_singleton, bigSep_sep']
  rfl

theorem bigSep_two (P : Fin 2 → sProp 𝕄) : bigSep Finset.univ P = iprop(P 0 ∗ P 1) :=
  bigSep_univ_eq_bigSepL [0, 1] (by decide) (by decide) P
theorem bigSep_three (P : Fin 3 → sProp 𝕄) : bigSep Finset.univ P = iprop(P 0 ∗ P 1 ∗ P 2) :=
  bigSep_univ_eq_bigSepL [0, 1, 2] (by decide) (by decide) P
theorem bigSep_four (P : Fin 4 → sProp 𝕄) : bigSep Finset.univ P = iprop(P 0 ∗ P 1 ∗ P 2 ∗ P 3) :=
  bigSep_univ_eq_bigSepL [0, 1, 2, 3] (by decide) (by decide) P
theorem bigSep_six (P : Fin 6 → sProp 𝕄) : bigSep Finset.univ P = iprop(P 0 ∗ P 1 ∗ P 2 ∗ P 3 ∗ P 4 ∗ P 5) :=
  bigSep_univ_eq_bigSepL [0, 1, 2, 3, 4, 5] (by decide) (by decide) P

/-- The slots' resources, by step. -/
theorem slots_steps (P : Fin 6 → Fin 2 → Fin 4 → sProp 𝕄) :
    (bigSep Finset.univ fun σ : Slot => P σ.1 σ.2.1 σ.2.2)
      = iprop(St (P 0) ∗ St (P 1) ∗ St (P 2) ∗ St (P 3) ∗ St (P 4) ∗ St (P 5)) := by
  rw [bigSep_univ_prod, bigSep_six]
  simp only [St_unfold]

/-! ## By trip -/

theorem trips4 {n : ℕ} (h : n = 4) (P : Fin 2 → Fin 4 → sProp 𝕄) :
    (bigSep Finset.univ fun t : Fin n => iprop(P 0 (ch t.val) ∗ P 1 (ch t.val))) = St P := by
  subst h
  exact bigSep_congr fun t _ => by rw [show ch t.val = t from Fin.ext (Nat.mod_eq_of_lt t.isLt)]

theorem ch_prod (a : ℕ) (x : Fin a × Fin 4) : ch (finProdFinEquiv x).val = x.2 :=
  Fin.ext (show (x.2.val + 4 * x.1.val) % 4 = x.2.val by have := x.2.isLt; omega)
theorem hi2_prod (x : Fin 2 × Fin 4) : hi2 (finProdFinEquiv x).val = x.1 :=
  Fin.ext (show (x.2.val + 4 * x.1.val) / 4 % 2 = x.1.val by have := x.2.isLt; have := x.1.isLt; omega)
theorem hi3_prod (x : Fin 3 × Fin 4) : hi3 (finProdFinEquiv x).val = x.1 :=
  Fin.ext (show (x.2.val + 4 * x.1.val) / 4 % 3 = x.1.val by have := x.2.isLt; have := x.1.isLt; omega)

theorem trips8 {n : ℕ} (h : n = 8) (P : Fin 2 → Fin 2 → Fin 4 → sProp 𝕄) :
    (bigSep Finset.univ fun t : Fin n => iprop(P (hi2 t.val) 0 (ch t.val) ∗ P (hi2 t.val) 1 (ch t.val))) = iprop(St (P 0) ∗ St (P 1)) := by
  subst h
  rw [bigSep_univ_equiv (finProdFinEquiv : Fin 2 × Fin 4 ≃ Fin 8)]
  simp only [ch_prod, hi2_prod]
  rw [bigSep_univ_prod, bigSep_two]
  rfl

theorem trips12 {n : ℕ} (h : n = 12) (P Q : Fin 3 → Fin 2 → Fin 4 → sProp 𝕄) :
    (bigSep Finset.univ fun t : Fin n => iprop(P (hi3 t.val) 0 (ch t.val) ∗ Q (hi3 t.val) 0 (ch t.val)
        ∗ P (hi3 t.val) 1 (ch t.val) ∗ Q (hi3 t.val) 1 (ch t.val)))
      = iprop((St (P 0) ∗ St (Q 0)) ∗ (St (P 1) ∗ St (Q 1)) ∗ (St (P 2) ∗ St (Q 2))) := by
  subst h
  rw [bigSep_univ_equiv (finProdFinEquiv : Fin 3 × Fin 4 ≃ Fin 12)]
  simp only [ch_prod, hi3_prod]
  rw [bigSep_univ_prod, bigSep_three]
  have e (j : Fin 3) : (bigSep Finset.univ fun k : Fin 4 => iprop(P j 0 k ∗ Q j 0 k ∗ P j 1 k ∗ Q j 1 k)) = iprop(St (P j) ∗ St (Q j)) := by
    rw [← St_sep]
    exact bigSep_congr fun k _ => BI.equiv_iff.mp ⟨BI.sep_assoc', BI.sep_assoc⟩
  exact congrArg₂ BI.sep (e 0) (congrArg₂ BI.sep (e 1) (e 2))

end Cert.RingProof

end
-- ==== Proof.Barrier.lean ====
/- What a device starts and ends with; the barrier. -/

module

public import proofs.«01_k».proof.Proof.Regroup

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

/-! ## What a device starts with, and what it ends with -/

/-- A resource for every slot, by step. -/
def Steps (P : Fin 6 → Fin 2 → Fin 4 → sProp 𝕄) : sProp 𝕄 := bigSep Finset.univ fun s => St (P s)

theorem steps_slots (P : Fin 6 → Fin 2 → Fin 4 → sProp 𝕄) : (bigSep Finset.univ fun σ : Slot => P σ.1 σ.2.1 σ.2.2) = Steps P := by
  rw [slots_steps, Steps, bigSep_six]

theorem steps_sep (P Q : Fin 6 → Fin 2 → Fin 4 → sProp 𝕄) : Steps (fun s d k => iprop(P s d k ∗ Q s d k)) = iprop(Steps P ∗ Steps Q) := by
  unfold Steps
  rw [← bigSep_sep']
  exact bigSep_congr fun s _ => St_sep _ _

theorem steps_mono {P Q : Fin 6 → Fin 2 → Fin 4 → sProp 𝕄} (h : ∀ s d k, P s d k ⊢ Q s d k) : Steps P ⊢ Steps Q :=
  bigSep_mono fun s _ => St_mono (h s)

/-- The places that `c` writes on its neighbours, by slot. -/
theorem places_steps (c : Dev nD) :
    iprop(slotsAt (F := F) 0 c ∗ slotsAt (F := F) 1 c) = Steps fun s d k => ownE (F := F) (dst d c) (dstM c s d k) := by
  unfold slotsAt
  rw [bigSep_univ_prod, bigSep_univ_prod, ← bigSep_sep']
  unfold Steps
  refine bigSep_congr fun s _ => ?_
  unfold St
  rw [bigSep_sep']

/-- The tokens of the duties that a device pays for a slot. -/
def slotTok (c : Dev nD) (s : Fin 6) (d : Fin 2) (k : Fin 4) : sProp 𝕄 :=
  iprop(dutyTok ER (sendCell c (s, d, k)) 0 false ∗ dutyTok ER (recvCell (dst d c) (s, d, k)) 0 false)

/-- What concerns the barrier: the tokens of the two duties a device pays, its position and its credit. -/
def barR (c : Dev nD) : sProp 𝕄 :=
  iprop(dutyTok ER (barCell (dst 1 c)) 0 true ∗ dutyTok ER (barCell (dst 0 c)) 0 false
    ∗ atPos ER (barCell c) 0 ∅ 0 ∗ cred (tallyAt (barCell c) () 2))

/-- The chunks of the buffers that a device holds at launch. -/
def placesR (c : Dev nD) : sProp 𝕄 :=
  iprop(slotsAt (F := F) 0 (dst 1 c) ∗ slotsAt (F := F) 1 (dst 0 c)
    ∗ St (fun d k => ownE (F := F) c (stM d k)) ∗ St (fun d k => ownE (F := F) c (outM c d k)))

/-- The buffers a device works with, before the weights are copied. -/
def bufs₀ (c : Dev nD) : sProp 𝕄 :=
  iprop(((c : Thread nD τ).loc main_arg0 ↦{fullShare} m ((c : Thread nD τ).loc main_arg0)) ∗ own c (Memref.whole main_arg1) (wFull m c)
    ∗ ownE (F := F) c wM ∗ ownE (F := F) c vaM ∗ ownE (F := F) c vbM ∗ ownE (F := F) c vxM ∗ cpVal c 0 ∗ cpVal c 1 ∗ cpVal c 2)

def startR (c : Dev nD) : sProp 𝕄 :=
  iprop(barR c ∗ Steps (slotTok (F := F) c) ∗ Steps (recvR (F := F) c) ∗ Steps (posS (F := F) c) ∗ placesR c ∗ bufs₀ m c)

/-- The result on every device: every block finished. -/
def outR (c : Dev nD) : sProp 𝕄 := bigSep Finset.univ fun b : Fin 4 => St fun d k => own c (outM b d k) (finV m d b k)

def finishR (c : Dev nD) : sProp 𝕄 :=
  iprop(bufs m c ∗ own c (Memref.whole main_arg1) (wFull m c) ∗ semVal (barCell c) 0
    ∗ Steps (fun s d k => semVal (sendCell c (s, d, k)) 0) ∗ Steps (fun s d k => semVal (recvCell c (s, d, k)) 0) ∗ outR m c)

/-! ## The barrier -/

theorem payload_bar (c : Dev nD) (b : Bool) : (ringRd m).payload (barCell c) 0 b = slotsAt (F := F) (if b then 0 else 1) c := rfl

theorem numel_w : 0 < S2048x4096.numel := by decide

/-- A signal to a neighbour's barrier semaphore hands over the places that it writes here. -/
theorem wp_sig (c e : Dev nD) (b : Bool) {n : ℕ} (hn : n = 1) (O O' : CellTallies nD τ sig Unit) (hO : O' = O + tallyAt (barCell e) () 1)
    {c' : Dev nD} (hc : c' = e) {α : Type} {Q : α → sProp 𝕄} {kk : PUnit → Prog (TpuEff nD τ sig (Elt F) Λ₀ .tc) α} :
    iprop(records m K ∗ (∃ W, owes (c : Thread nD τ) O' W) ∗ dutyTok ER (barCell e) 0 b ∗ slotsAt (F := F) (if b then 0 else 1) e)
      ⊢ iprop(((∃ W, owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc c' : Thread nD τ) barS n) kk) Q) := by
  subst hc hn hO
  iintro ⟨#Hrec, ⟨%W, HO⟩, Ht, Hp⟩ Hk
  iapply (Rounds.wp_signal 𝒱₀ ER (ringRd m) (c : Thread nD τ) none (dst := (c' : Thread nD τ)) (κ := K (c', none))
      (d := b) (by rw [duties_bar]; exact Finset.mem_univ _) (amount_bar m c' b) () O rfl) $$ [HO Ht Hp]
  · isplitr; · iapply (records_inv m K (c', none)); iexact Hrec
    isplitl [HO]; · iexact HO
    isplitl [Ht]; · iexact Ht
    isplitl [Hp]; · iapply (Entails.of_eq (payload_bar m c' b).symm); iexact Hp
    iapply (records_reached m K (c', none)); iexact Hrec
  iintro HO
  iapply Hk
  iexists W; iexact HO

/-- The wait for both neighbours' signals: the places that this device writes on them. -/
theorem wp_bar (c : Dev nD) {n : ℕ} (hn : n = 2) {α : Type} {Q : α → sProp 𝕄} {kk : PUnit → Prog (TpuEff nD τ sig (Elt F) Λ₀ .tc) α} :
    iprop(records m K ∗ owesE c 48 ∗ atPos ER (barCell c) 0 ∅ 0 ∗ cred (tallyAt (barCell c) () 2))
      ⊢ iprop((iprop(owesE c 48 ∗ semVal (barCell c) 0 ∗ Steps (fun s d k => ownE (F := F) (dst d c) (dstM c s d k)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS n) kk) Q) := by
  subst hn
  iintro ⟨#Hrec, ⟨%W, HO⟩, Hat, Hc⟩ Hk
  iapply (Rounds.wp_wait_rest_token 𝒱₀ ER (ringRd m) (c : Thread nD τ) none (κ := K (c, none))
      (wpE_semWait_eq 𝒱₀ (c : Thread nD τ) none Set.univ) (Set.mem_univ _) () (O := owed c 48) (W := W) (R := 0) (m := 0) (T := ∅)
      (by rw [Nat.zero_add, expect_bar])) $$ [Hc HO Hat]
  · isplitr; · iapply (records_inv m K (c, none)); iexact Hrec
    isplitl [Hc]; · iexact Hc
    isplitl [HO]; · iexact HO
    isplitr
    · iapply (mayWait_owed c (SemLoc.reg barS) (r := 48) (le_refl _) (by show 1 < 2 + 0; omega))
      iapply (records_lev m K); iexact Hrec
    iexact Hat
  iintro ⟨HO, Hat, -, Hpay⟩
  ihave Hp := (Entails.of_eq (rest_bar m c)) $$ Hpay
  imod (Rounds.cell_close ER (ringRd m) (Set.mem_univ (K (c, none))) (fun h => h) (R := 0 + 1) (duties_later m (barCell c))) $$ [Hat] with Hz
  · isplitr; · iapply (records_inv m K (c, none)); iexact Hrec
    iexact Hat
  iapply Hk
  isplitl [HO]; · iexists _; iexact HO
  isplitl [Hz]; · iexact Hz
  iapply (Entails.of_eq (places_steps (F := F) c))
  icases Hp with ⟨H1, H0⟩
  isplitl [H0] <;> iassumption

/-! ## The finished blocks -/

def agBlock (d : Fin 2) (c : Dev nD) : Fin 4 ≃ Fin 4 :=
  Equiv.ofBijective (fun t : Fin 4 => agB d t.val c) (by revert d c; decide)

theorem out_join (c : Dev nD) (R : Fin 4 → Fin 2 → Fin 4 → sProp 𝕄) :
    (bigSep Finset.univ fun t : Fin 4 => St fun d k => R (agB d t.val c) d k) = bigSep Finset.univ fun b : Fin 4 => St (R b) := by
  unfold St
  simp only [bigSep_sep']
  rw [bigSep_univ_equiv (agBlock 0 c) (fun b : Fin 4 => bigSep Finset.univ (R b 0)),
    bigSep_univ_equiv (agBlock 1 c) (fun b : Fin 4 => bigSep Finset.univ (R b 1))]
  rfl

theorem dst_last (c : Dev nD) (d : Fin 2) (k : Fin 4) :
    own c (dstM (src d c) 5 d k) (slotV m (src d c) 5 d k) = own c (outM (agB d 3 c) d k) (finV m d (agB d 3 c) k) := by
  show own c (outM (agB d 2 (src d c)) d k) (finV m d (agB d 2 (src d c)) k) = _
  rw [agB_src]

end Cert.RingProof

end
-- ==== Proof.Split.lean ====
/- The buffers in chunks, and put together again. -/

module

public import proofs.«01_k».proof.Proof.Barrier

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

/-! ## Rectangles that tile a shape -/

/-- Rectangles told apart by a function of the place are disjoint, and cover everything. -/
theorem rects_disjoint {T : Type} {sh : Shape} {r : T → Rect sh} {at_ : sh.Idx → T} (h : ∀ t i, i ∈ (r t).set ↔ at_ i = t) :
    ∀ t t', t ≠ t' → Disjoint (r t).set (r t').set := fun t t' hne =>
  Finset.disjoint_left.mpr fun i hi hi' => hne (((h t i).mp hi).symm.trans ((h t' i).mp hi'))
theorem rects_cover {T : Type} [Fintype T] [DecidableEq T] {sh : Shape} {r : T → Rect sh} {at_ : sh.Idx → T}
    (h : ∀ t i, i ∈ (r t).set ↔ at_ i = t) : (Finset.univ.biUnion fun t => (r t).set) = Finset.univ :=
  Finset.eq_univ_iff_forall.mpr fun i => Finset.mem_biUnion.mpr ⟨at_ i, Finset.mem_univ _, (h _ i).mpr rfl⟩

/-- A memref held at any contents is its tiles, each at any contents. -/
theorem ownE_tiles (c : Dev nD) {T : Type} [Fintype T] [DecidableEq T] {sp : Space} {sh : Shape} (M : Memref sig .tc sp sh .f32)
    (r : T → Rect sh) (hr : ∀ t a, (r t).stride a = 1) {at_ : sh.Idx → T} (h : ∀ t i, i ∈ (r t).set ↔ at_ i = t) :
    ownE (F := F) c M ⊢ bigSep Finset.univ fun t => ownE (F := F) c (M.slice (r t) (hr t)) := by
  iintro ⟨%X, H⟩
  ihave H' := (owns_rects (c : Thread nD τ) M fullShare r hr (rects_disjoint h) (rects_cover h) X) $$ H
  have h1 (t : T) : own c (M.slice (r t) (hr t)) (fun j => X ((r t).emb j)) ⊢ ownE (F := F) c (M.slice (r t) (hr t)) := by
    iintro H
    iexists _
    iexact H
  iapply (show (bigSep Finset.univ fun t => own c (M.slice (r t) (hr t)) (fun j => X ((r t).emb j)) : sProp 𝕄)
      ⊢ bigSep Finset.univ fun t => ownE (F := F) c (M.slice (r t) (hr t)) from bigSep_mono fun t _ => h1 t)
  iexact H'

/-- Dropping axes of extent one keeps what is held. -/
theorem ownE_squeeze (c : Dev nD) {sp : Space} {sh sh' : Shape} (M : Memref sig .tc sp sh .f32) (h : sh.Squeezes sh') :
    ownE (F := F) c M ⊢ ownE (F := F) c (M.squeeze sh' h) := by
  unfold ownE own owns
  iintro ⟨%X, %f, %hf, H⟩
  iexists ((M.squeeze sh' h).view.read (Elt F) f)
  iexists f
  isplitr; · ipureintro; rfl
  have e : (M.squeeze sh' h).view.set = M.view.set := View.set_reshape _ _
  iapply (show (M.view.loc (c : Thread nD τ) ↦[M.view.set]{fullShare} f : sProp 𝕄)
      ⊢ (M.view.loc (c : Thread nD τ) ↦[(M.squeeze sh' h).view.set]{fullShare} f) from Entails.of_eq (by rw [e]))
  iexact H

/-! ## The three buffers in main memory -/

abbrev outRect (t : Fin 4 × Fin 2 × Fin 4) : Rect S8192x4096 :=
  Rect.unit (s := S8192x4096) ![2048 * t.1.val + 512 * t.2.2.val, 2048 * t.2.1.val] S512x2048.size (out_inb t.1 t.2.1 t.2.2)
/-- The chunk a place of the result lies in, -/
def outAt (i : S8192x4096.Idx) : Fin 4 × Fin 2 × Fin 4 :=
  (⟨(i 0).val / 2048, by have : (i 0).val < 8192 := (i 0).isLt; omega⟩, ⟨(i 1).val / 2048, by have : (i 1).val < 4096 := (i 1).isLt; omega⟩,
    ⟨(i 0).val % 2048 / 512, by omega⟩)
/-- and where in the chunk. -/
def outIn (i : S8192x4096.Idx) : S512x2048.Idx := fun a => ⟨(i a).val % S512x2048.size a, Nat.mod_lt _ (by revert a; decide)⟩

theorem out_locates (t : Fin 4 × Fin 2 × Fin 4) (i : S8192x4096.Idx) : i ∈ (outRect t).set ↔ outAt i = t := by
  obtain ⟨b, d, k⟩ := t
  have h0 : (i 0).val < 8192 := (i 0).isLt
  have h1 : (i 1).val < 4096 := (i 1).isLt
  rw [Rect.mem_set_unit, Fin.forall_fin_two]
  unfold outAt
  simp only [Prod.mk.injEq, Fin.ext_iff]
  show ((2048 * b.val + 512 * k.val ≤ (i 0).val ∧ (i 0).val < 2048 * b.val + 512 * k.val + 512)
    ∧ (2048 * d.val ≤ (i 1).val ∧ (i 1).val < 2048 * d.val + 2048)) ↔ _
  omega

abbrev rbRect (t : Fin 3 × Fin 2 × Fin 4) : Rect S2x3x2048x2048 :=
  Rect.unit (s := S2x3x2048x2048) ![t.2.1.val, t.1.val, 512 * t.2.2.val, 0] S1x1x512x2048.size (rb_inb t.2.1 t.1 t.2.2)
def rbAt (i : S2x3x2048x2048.Idx) : Fin 3 × Fin 2 × Fin 4 :=
  (⟨(i 1).val, (i 1).isLt⟩, ⟨(i 0).val, (i 0).isLt⟩, ⟨(i 2).val / 512, by have : (i 2).val < 2048 := (i 2).isLt; omega⟩)

theorem rb_locates (t : Fin 3 × Fin 2 × Fin 4) (i : S2x3x2048x2048.Idx) : i ∈ (rbRect t).set ↔ rbAt i = t := by
  obtain ⟨s, d, k⟩ := t
  have h2 : (i 2).val < 2048 := (i 2).isLt
  have h3 : (i 3).val < 2048 := (i 3).isLt
  rw [Rect.mem_set_unit, Fin.forall_fin_succ, Fin.forall_fin_succ, Fin.forall_fin_two]
  unfold rbAt
  simp only [Prod.mk.injEq, Fin.ext_iff]
  show ((d.val ≤ (i 0).val ∧ (i 0).val < d.val + 1) ∧ (s.val ≤ (i 1).val ∧ (i 1).val < s.val + 1)
    ∧ (512 * k.val ≤ (i 2).val ∧ (i 2).val < 512 * k.val + 512) ∧ (0 ≤ (i 3).val ∧ (i 3).val < 0 + 2048)) ↔ _
  omega

abbrev stRect (t : Fin 2 × Fin 4) : Rect S2x2048x2048 :=
  Rect.unit (s := S2x2048x2048) ![t.1.val, 512 * t.2.val, 0] S1x512x2048.size (st_inb t.1 t.2)
def stAt (i : S2x2048x2048.Idx) : Fin 2 × Fin 4 :=
  (⟨(i 0).val, (i 0).isLt⟩, ⟨(i 1).val / 512, by have : (i 1).val < 2048 := (i 1).isLt; omega⟩)

theorem st_locates (t : Fin 2 × Fin 4) (i : S2x2048x2048.Idx) : i ∈ (stRect t).set ↔ stAt i = t := by
  obtain ⟨d, k⟩ := t
  have h1 : (i 1).val < 2048 := (i 1).isLt
  have h2 : (i 2).val < 2048 := (i 2).isLt
  rw [Rect.mem_set_unit, Fin.forall_fin_succ, Fin.forall_fin_two]
  unfold stAt
  simp only [Prod.mk.injEq, Fin.ext_iff]
  show ((d.val ≤ (i 0).val ∧ (i 0).val < d.val + 1)
    ∧ (512 * k.val ≤ (i 1).val ∧ (i 1).val < 512 * k.val + 512) ∧ (0 ≤ (i 2).val ∧ (i 2).val < 0 + 2048)) ↔ _
  omega

theorem out_split (c : Dev nD) : ownE (F := F) c outW ⊢ bigSep Finset.univ fun b : Fin 4 => St fun d k => ownE (F := F) c (outM b d k) := by
  refine (ownE_tiles c outW outRect (fun _ _ => rfl) out_locates).trans ?_
  rw [bigSep_univ_prod]
  exact bigSep_mono fun b _ => Entails.of_eq (St_unfold fun d k => ownE (F := F) c (outM b d k))

theorem rb_split (c : Dev nD) : ownE (F := F) c rbW ⊢ bigSep Finset.univ fun s : Fin 3 => St fun d k => ownE (F := F) c (rbM d s k) := by
  refine (ownE_tiles c rbW rbRect (fun _ _ => rfl) rb_locates).trans ?_
  refine (bigSep_mono fun t _ => ownE_squeeze (F := F) c _ squeezes_S1x1x512x2048_S512x2048).trans ?_
  rw [bigSep_univ_prod]
  exact bigSep_mono fun s _ => Entails.of_eq (St_unfold fun d k => ownE (F := F) c (rbM d s k))

theorem st_split (c : Dev nD) : ownE (F := F) c stW ⊢ St fun d k => ownE (F := F) c (stM d k) := by
  refine (ownE_tiles c stW stRect (fun _ _ => rfl) st_locates).trans ?_
  refine (bigSep_mono fun t _ => ownE_squeeze (F := F) c _ squeezes_S1x512x2048_S512x2048).trans ?_
  exact Entails.of_eq (St_unfold fun d k => ownE (F := F) c (stM d k))

/-! ## The chunks by who writes them -/

/-- The places of device `c` that its neighbours write, by slot. -/
theorem places_here (c : Dev nD) :
    iprop(slotsAt (F := F) 0 (dst 1 c) ∗ slotsAt (F := F) 1 (dst 0 c)) = Steps fun s d k => ownE (F := F) c (dstM (src d c) s d k) := by
  have h (d : Fin 2) : slotsAt (F := F) d (src d c)
      = bigSep Finset.univ fun s : Fin 6 => bigSep Finset.univ fun k : Fin 4 => ownE (F := F) c (dstM (src d c) s d k) := by
    unfold slotsAt
    rw [bigSep_univ_prod, dst_src]
  rw [show dst 1 c = src 0 c from rfl, show dst 0 c = src 1 c from rfl, h 0, h 1, ← bigSep_sep']
  unfold Steps
  refine bigSep_congr fun s _ => ?_
  unfold St
  rw [bigSep_sep']

theorem place_start (c : Dev nD) : iprop(ownE (F := F) c outW ∗ ownE (F := F) c rbW ∗ ownE (F := F) c stW) ⊢ placesR (F := F) c := by
  have ho := out_join c fun b d k => ownE (F := F) c (outM b d k)
  have hp : (Steps fun s d k => ownE (F := F) c (dstM (src d c) s d k))
      = iprop((St fun d k => ownE (F := F) c (rbM d 0 k)) ∗ (St fun d k => ownE (F := F) c (rbM d 1 k)) ∗ (St fun d k => ownE (F := F) c (rbM d 2 k))
        ∗ (St fun d k => ownE (F := F) c (outM (agB d 1 c) d k)) ∗ (St fun d k => ownE (F := F) c (outM (agB d 2 c) d k))
        ∗ (St fun d k => ownE (F := F) c (outM (agB d 3 c) d k))) := by
    unfold Steps
    rw [bigSep_six]
    have hs (t : ℕ) : (St fun d k => ownE (F := F) c (outM (agB d t (src d c)) d k)) = St fun d k => ownE (F := F) c (outM (agB d (t + 1) c) d k) :=
      St_congr fun d k => by rw [agB_src]
    show iprop(_ ∗ _ ∗ _ ∗ (St fun d k => ownE (F := F) c (outM (agB d 0 (src d c)) d k)) ∗ (St fun d k => ownE (F := F) c (outM (agB d 1 (src d c)) d k))
      ∗ (St fun d k => ownE (F := F) c (outM (agB d 2 (src d c)) d k))) = _
    rw [hs 0, hs 1, hs 2]
    rfl
  have h0 : (St fun d k => ownE (F := F) c (outM (agB d 0 c) d k)) = St fun d k => ownE (F := F) c (outM c d k) :=
    St_congr fun d k => by rw [agB_zero]
  rw [bigSep_four] at ho
  unfold placesR
  have hfin : iprop(ownE (F := F) c outW ∗ ownE (F := F) c rbW ∗ ownE (F := F) c stW)
      ⊢ iprop((slotsAt (F := F) 0 (dst 1 c) ∗ slotsAt (F := F) 1 (dst 0 c))
        ∗ St (fun d k => ownE (F := F) c (stM d k)) ∗ St (fun d k => ownE (F := F) c (outM c d k))) := by
    rw [places_here, hp, ← h0]
    iintro ⟨Ho, Hr, Hs⟩
    ihave Ho := (out_split c) $$ Ho
    ihave Ho := (show _ ⊢ _ from Entails.of_eq ho.symm) $$ [Ho]
    · iexact Ho
    ihave Hr := (rb_split c) $$ Hr
    ihave Hr := (show _ ⊢ _ from Entails.of_eq (bigSep_three fun s : Fin 3 => St fun d k => ownE (F := F) c (rbM d s k))) $$ [Hr]
    · iexact Hr
    ihave Hs := (st_split c) $$ Hs
    icases Ho with ⟨O0, O1, O2, O3⟩
    icases Hr with ⟨R0, R1, R2⟩
    isplitl [O1 O2 O3 R0 R1 R2]
    · isplitl [R0]; · iexact R0
      isplitl [R1]; · iexact R1
      isplitl [R2]; · iexact R2
      isplitl [O1]; · iexact O1
      isplitl [O2]; · iexact O2
      iexact O3
    isplitl [Hs]; · iexact Hs
    iexact O0
  refine hfin.trans ?_
  iintro ⟨⟨A, B⟩, C, D⟩
  isplitl [A]; · iexact A
  isplitl [B]; · iexact B
  isplitl [C]; · iexact C
  iexact D

/-! ## The result put together -/

/-- The result: at each place, that of the finished chunk it lies in. -/
def outV : Vec F S8192x4096 .f32 := fun i => finV m (outAt i).2.1 (outAt i).1 (outAt i).2.2 (outIn i)

theorem outV_emb (t : Fin 4 × Fin 2 × Fin 4) (j : S512x2048.Idx) : outV m ((outRect t).emb j) = finV m t.2.1 t.1 t.2.2 j := by
  have h1 : outAt ((outRect t).emb j) = t := (out_locates t _).mp (show (outRect t).emb j ∈ (outRect t).set from Rect.mem_set_unit.mpr fun a => ⟨Nat.le_add_right _ _, by show _ + 1 * (j a).val < _ + _; have := (j a).isLt; rw [Nat.one_mul]; exact Nat.add_lt_add_left this _⟩)
  have h2 : outIn ((outRect t).emb j) = j := by
    obtain ⟨b, d, k⟩ := t
    have h0 : (j 0).val < 512 := (j 0).isLt
    have h1 : (j 1).val < 2048 := (j 1).isLt
    funext a
    apply Fin.ext
    revert a
    rw [Fin.forall_fin_two]
    refine ⟨?_, ?_⟩
    · show (2048 * b.val + 512 * k.val + 1 * (j 0).val) % 512 = (j 0).val
      omega
    · show (2048 * d.val + 1 * (j 1).val) % 2048 = (j 1).val
      omega
  unfold outV
  rw [h1, h2]

theorem out_done (c : Dev nD) : outR m c ⊢ own c outW (outV m) := by
  refine BI.Entails.trans ?_ (owns_of_rects (c : Thread nD τ) outW fullShare outRect (fun _ _ => rfl) (rects_disjoint out_locates) (rects_cover out_locates) (outV m))
  unfold outR
  rw [bigSep_univ_prod]
  refine bigSep_mono fun b _ => ?_
  have e (dk : Fin 2 × Fin 4) : own c (outM b dk.1 dk.2) (finV m dk.1 b dk.2)
      = own c (outM b dk.1 dk.2) (fun j => outV m ((outRect (b, dk)).emb j)) :=
    congrArg (fun X => own c (outM b dk.1 dk.2) X) (funext fun j => (outV_emb m (b, dk) j).symm)
  have e' : (St fun d k => own c (outM b d k) (finV m d b k))
      = bigSep Finset.univ fun dk : Fin 2 × Fin 4 => own c (outM b dk.1 dk.2) (fun j => outV m ((outRect (b, dk)).emb j)) :=
    (St_unfold fun d k => own c (outM b d k) (finV m d b k)).symm.trans (bigSep_congr fun dk _ => e dk)
  exact Entails.of_eq e'

end Cert.RingProof

end
-- ==== Proof.Ghost.lean ====
/- The launch: cells, tokens and invariants. -/

module

public import proofs.«01_k».proof.Proof.Split

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

/-! ## The cells, and the semaphores that the kernel owns -/

/-- Which of the protocol's cells a semaphore is. -/
def cix : SemLoc sig → CIx
  | .reg _ => none
  | .dma i => decode i

theorem cix_csem (x : CIx) : cix (csem x) = x := by
  rcases x with _ | ⟨_ | _, σ⟩
  · rfl
  · exact decode_send σ
  · exact decode_recv σ

theorem csem_injective : Function.Injective csem := fun x y h => by rw [← cix_csem x, h, cix_csem y]

theorem dev_of_cell {a b : Dev nD} {x y : SemLoc sig} (h : (((a : Thread nD τ), x) : GSem nD τ sig) = ((b : Thread nD τ), y)) : a = b ∧ x = y :=
  ⟨congrArg (fun g : GSem nD τ sig => g.1.1) h, congrArg Prod.snd h⟩

theorem kcell_injective : Function.Injective kcell := fun p q h =>
  Prod.ext (dev_of_cell h).1 (csem_injective (dev_of_cell h).2)

/-- The kernel's own semaphores: three for local copies, then the slots'. -/
def osem : Fin 3 ⊕ (Bool × Slot) → SemLoc sig
  | .inl i => .dma (cpS i)
  | .inr x => csem (some x)

theorem cpS_decode (i : Fin 3) : decode (cpS i) = none := by unfold decode cpS; exact if_pos i.isLt

theorem osem_injective : Function.Injective osem := fun a b h => by
  rcases a with i | x <;> rcases b with j | y
  · have := congrArg Fin.val (SemLoc.dma.inj h)
    exact congrArg Sum.inl (Fin.ext this)
  · have h' := congrArg cix h
    rw [show cix (osem (.inl i)) = none from cpS_decode i, show osem (.inr y) = csem (some y) from rfl, cix_csem] at h'
    cases h'
  · have h' := congrArg cix h
    rw [show cix (osem (.inl j)) = none from cpS_decode j, show osem (.inr x) = csem (some x) from rfl, cix_csem] at h'
    cases h'
  · exact congrArg Sum.inr (Option.some.inj (csem_injective h))

theorem dma_scoped : ∀ i : DmaSem sig, (SemLoc.dma i : SemLoc sig).isScoped .tc = true := by decide

theorem ownSemFacts : Pipeline.OwnSemFacts cfg0.spec osem where
  isScoped k := by
    rcases k with i | ⟨_ | _, σ⟩
    · exact dma_scoped _
    · exact dma_scoped _
    · exact dma_scoped _
  inj := osem_injective
  disj k w := w.elim0

/-! ## Families over the cells -/

theorem bigSep_option {A : Type} [Fintype A] [DecidableEq A] (P : Option A → sProp 𝕄) :
    bigSep Finset.univ P = iprop(P none ∗ bigSep Finset.univ fun a => P (some a)) := by
  rw [bigSep_univ_at P none, show (Finset.univ : Finset (Option A)).erase none = Finset.univ.map Function.Embedding.some from by
    ext x; cases x <;> simp, bigSep_map]
  rfl

theorem bigSep_bool (P : Bool → sProp 𝕄) : bigSep Finset.univ P = iprop(P false ∗ P true) :=
  bigSep_univ_eq_bigSepL [false, true] (by decide) (by decide) P

theorem bigSep_slots (P : Bool × Slot → sProp 𝕄) :
    bigSep Finset.univ P = iprop((bigSep Finset.univ fun σ => P (false, σ)) ∗ bigSep Finset.univ fun σ => P (true, σ)) := by
  rw [bigSep_univ_prod, bigSep_bool]

theorem bigSep_cells (P : CIx → sProp 𝕄) :
    bigSep Finset.univ P = iprop(P none ∗ (bigSep Finset.univ fun σ => P (some (false, σ))) ∗ bigSep Finset.univ fun σ => P (some (true, σ))) := by
  rw [bigSep_option, bigSep_slots]

/-- Two families one inside the other, in either order. -/
theorem bigSep_flip {A B : Type} [Fintype A] [Fintype B] (P : A → B → sProp 𝕄) :
    (bigSep Finset.univ fun a => bigSep Finset.univ fun b => P a b) = bigSep Finset.univ fun b => bigSep Finset.univ fun a => P a b := by
  rw [← bigSep_univ_prod (fun p : A × B => P p.1 p.2), ← bigSep_univ_prod (fun p : B × A => P p.2 p.1),
    bigSep_univ_equiv (Equiv.prodComm B A) (fun p : A × B => P p.1 p.2)]
  rfl

abbrev cps (c : Dev nD) : sProp 𝕄 := iprop(cpVal c 0 ∗ cpVal c 1 ∗ cpVal c 2)

theorem ownSems0_eq (c : Dev nD) : (Pipeline.ownSems0 (Ix := Unit) (Name := ℕ) (U := UU) (Lvl := ℕ) (Val := Elt F) (τ := τ) osem c : sProp 𝕄)
    = iprop(cps c ∗ (bigSep Finset.univ fun σ => semVal (sendCell c σ) 0) ∗ bigSep Finset.univ fun σ => semVal (recvCell c σ) 0) := by
  unfold Pipeline.ownSems0
  rw [bigSep_univ_sum, bigSep_three, bigSep_slots]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_cells (c : Dev nD) :
    iprop(Pipeline.ownSems0 (Ix := Unit) (Name := ℕ) (U := UU) (Lvl := ℕ) (Val := Elt F) (τ := τ) osem c ∗ unscopedSems0 c)
      ⊢ (iprop((bigSep Finset.univ fun x : CIx => semVal (kcell (c, x)) 0) ∗ cps c) : sProp 𝕄) := by
  rw [ownSems0_eq, unscopedSems0_eq, bigSep_cells]
  iintro ⟨⟨HC, HS, HR⟩, HB⟩
  isplitr [HC]
  · isplitl [HB]; · iexact HB
    isplitl [HS]; · iexact HS
    iexact HR
  iexact HC

/-! ## The launch element -/

def ringCells : Finset (GSem nD τ sig) := Finset.univ.map ⟨kcell, kcell_injective⟩

/-- The duty tokens, by device: two of its barrier cell, one of each slot's cells. -/
abbrev TIx : Type := Bool ⊕ (Bool × Slot)
def tokOf (p : Dev nD × TIx) : GSem nD τ sig × ℕ × Bool :=
  match p.2 with
  | .inl b => (barCell p.1, 0, b)
  | .inr x => (kcell (p.1, some x), 0, false)

theorem tokOf_injective : Function.Injective tokOf := fun p q h => by
  obtain ⟨c, x⟩ := p
  obtain ⟨c', y⟩ := q
  have h1 := congrArg Prod.fst h
  have h2 : (tokOf (c, x)).2.2 = (tokOf (c', y)).2.2 := congrArg (fun t : GSem nD τ sig × ℕ × Bool => t.2.2) h
  rcases x with b | x <;> rcases y with b' | y
  · exact Prod.ext (dev_of_cell h1).1 (congrArg Sum.inl h2)
  · exact absurd (congrArg Prod.snd (kcell_injective (a₁ := (c, none)) (a₂ := (c', some y)) h1)) (by simp)
  · exact absurd (congrArg Prod.snd (kcell_injective (a₁ := (c, some x)) (a₂ := (c', none)) h1)) (by simp)
  · have h3 := kcell_injective (a₁ := (c, some x)) (a₂ := (c', some y)) h1
    exact Prod.ext (show c = c' from congrArg Prod.fst h3) (congrArg Sum.inr (Option.some.inj (congrArg Prod.snd h3)))

def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

theorem own_u₀ : (ownU u₀ : sProp 𝕄) ⊢ iprop(BI.own (EP (initOf (Pipeline.cells cfgs cellOf_inj) (Pipeline.launchToks cfgs cellOf_inj)))
    ∗ BI.own (ER (initOf ringCells ringToks))) :=
  BI.own_op_elim ((uEmb (nD := nD) (τ := τ) (sig := sig) (Ix := Unit) (Val := Elt F) (Name := ℕ) (U := UU) (Lvl := ℕ)).toEmb.op_of_mem
    (Prod.mk_mem_op (URA.mem_op_one _) (URA.mem_one_op (initOf ringCells ringToks, (1 : Counters)))))

/-- The tokens of a device's own cells. -/
def toks (c : Dev nD) : sProp 𝕄 :=
  iprop((dutyTok ER (barCell c) 0 false ∗ dutyTok ER (barCell c) 0 true)
    ∗ (bigSep Finset.univ fun σ => dutyTok ER (sendCell c σ) 0 false) ∗ bigSep Finset.univ fun σ => dutyTok ER (recvCell c σ) 0 false)

/-- What the launch element deals a device: its cells' records, positions and tokens. -/
def G (c : Dev nD) : sProp 𝕄 :=
  iprop((bigSep Finset.univ fun x : CIx => roundState ER (ringRd m) (kcell (c, x)) 0)
    ∗ ((bigSep Finset.univ fun x : CIx => atPos ER (kcell (c, x)) 0 ∅ 0) ∗ bigSep Finset.univ fun x : CIx => reached ER (kcell (c, x)) 0) ∗ toks c)

theorem over_cells (P : GSem nD τ sig → sProp 𝕄) :
    bigSep ringCells P = bigSep Finset.univ fun c : Dev nD => bigSep Finset.univ fun x : CIx => P (kcell (c, x)) := by
  unfold ringCells
  rw [bigSep_map, bigSep_univ_prod]
  rfl

theorem over_toks : bigSep ringToks (fun t => (dutyTok ER t.1 t.2.1 t.2.2 : sProp 𝕄)) = bigSep Finset.univ fun c : Dev nD => toks c := by
  unfold ringToks
  rw [bigSep_map, bigSep_univ_prod]
  refine bigSep_congr fun c _ => ?_
  rw [bigSep_univ_sum, bigSep_bool, bigSep_slots]
  rfl

theorem fund_ring : BI.own (ER (initOf ringCells ringToks)) ⊢ (|==> bigSep Finset.univ (G m) : sProp 𝕄) := by
  iintro HX
  imod (Rounds.fund ER (ringRd m) ringCells ringToks) $$ HX with ⟨Hst, Hr, Hat, Htok⟩
  imodintro
  ihave Hst := (Entails.of_eq (over_cells fun g => roundState ER (ringRd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G; simp only [bigSep_sep']
  isplitl [Hst]; · iexact Hst
  isplitr [Htok]
  · isplitl [Hat]; · iexact Hat
    iexact Hr
  iexact Htok

/-! ## From the semaphores and the element to the invariants -/

/-- What a device keeps for itself: positions, the tokens of the duties that it pays, the local copies' semaphores. -/
def payToks (c : Dev nD) : sProp 𝕄 :=
  iprop((dutyTok ER (barCell (dst 1 c)) 0 true ∗ dutyTok ER (barCell (dst 0 c)) 0 false) ∗ Steps (slotTok (F := F) c))
def linear (c : Dev nD) : sProp 𝕄 := iprop((bigSep Finset.univ fun x : CIx => atPos ER (kcell (c, x)) 0 ∅ 0) ∗ payToks c ∗ cps c)

/-- The records before the levels are known. -/
def recs (K : Dev nD × CIx → ℕ) : sProp 𝕄 :=
  iprop((bigSep Finset.univ fun ci => cellInv ER (ringRd m) (K ci) (kcell ci)) ∗ bigSep Finset.univ fun ci => reached ER (kcell ci) 0)
instance recs_persistent (K : Dev nD × CIx → ℕ) : BI.Persistent (recs m K) := by unfold recs; infer_instance

theorem recs_records : iprop(recs m K ∗ levAts L lv) ⊢ records m K := by
  unfold recs records
  iintro ⟨⟨HI, HR⟩, HL⟩
  isplitl [HI]; · iexact HI
  isplitl [HR]; · iexact HR
  iexact HL

def G' (c : Dev nD) : sProp 𝕄 := iprop(∃ K, recs m K ∗ linear c)

/-- A device's invariants opened, their names not chosen. -/
abbrev invsE (c : Dev nD) : sProp 𝕄 := bigSep Finset.univ fun x : CIx => iprop(∃ κ : ℕ, cellInv ER (ringRd m) κ (kcell (c, x)))

theorem invs_alloc (c : Dev nD) :
    iprop((bigSep Finset.univ fun x : CIx => semVal (kcell (c, x)) 0) ∗ bigSep Finset.univ fun x : CIx => roundState ER (ringRd m) (kcell (c, x)) 0)
      ⊢ (|={Set.univ}=> invsE m c : sProp 𝕄) := by
  rw [← bigSep_sep']
  exact (bigSep_mono fun x _ => (Rounds.body_intro ER (ringRd m) (kcell (c, x))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(invsE m c ∗ (bigSep Finset.univ fun x : CIx => reached ER (kcell (c, x)) 0)
          ∗ (bigSep Finset.univ fun x : CIx => atPos ER (kcell (c, x)) 0 ∅ 0) ∗ toks c ∗ cps c) := by
  unfold G
  iintro ⟨Hos, Hus, Hst, ⟨Hat, Hr⟩, Htok⟩
  ihave Hv := (sems_cells (F := F) c) $$ [Hos Hus]
  · isplitl [Hos]; · iexact Hos
    iexact Hus
  icases Hv with ⟨Hv, Hcp⟩
  imod (invs_alloc m c) $$ [Hv Hst] with Hinv
  · isplitl [Hv]; · iexact Hv
    iexact Hst
  imodintro
  isplitl [Hinv]; · iexact Hinv
  isplitl [Hr]; · iexact Hr
  isplitl [Hat]; · iexact Hat
  isplitl [Htok]; · iexact Htok
  iexact Hcp

theorem sep_flip (A B : sProp 𝕄) : iprop(A ∗ B) = iprop(B ∗ A) := by
  have h : ∀ A B : sProp 𝕄, iprop(A ∗ B) ⊢ (iprop(B ∗ A) : sProp 𝕄) := fun A B => by
    iintro ⟨H1, H2⟩
    iframe H1 H2
  exact BI.equiv_iff.mp ⟨h A B, h B A⟩

/-- A family over the devices, at each one's neighbour. -/
theorem around (d : Fin 2) (P : Dev nD → sProp 𝕄) : bigSep Finset.univ P = bigSep Finset.univ fun c : Dev nD => P (dst d c) :=
  bigSep_univ_equiv (turn d) P

/-- The tokens dealt around the ring: a device pays at its neighbours' barrier and receive cells. -/
theorem toks_around : (bigSep Finset.univ fun c : Dev nD => (toks c : sProp 𝕄)) = bigSep Finset.univ fun c : Dev nD => payToks c := by
  have hr : (bigSep Finset.univ fun c : Dev nD => bigSep Finset.univ fun σ : Slot => (dutyTok ER (recvCell c σ) 0 false : sProp 𝕄))
      = bigSep Finset.univ fun c : Dev nD => bigSep Finset.univ fun σ : Slot => (dutyTok ER (recvCell (dst σ.2.1 c) σ) 0 false : sProp 𝕄) := by
    rw [bigSep_flip, bigSep_congr (fun (σ : Slot) _ => around σ.2.1 fun c => (dutyTok ER (recvCell c σ) 0 false : sProp 𝕄)), bigSep_flip]
  have hs (c : Dev nD) : Steps (slotTok (F := F) c) = iprop((bigSep Finset.univ fun σ : Slot => dutyTok ER (sendCell c σ) 0 false)
      ∗ bigSep Finset.univ fun σ : Slot => dutyTok ER (recvCell (dst σ.2.1 c) σ) 0 false) := by
    rw [← steps_slots, ← bigSep_sep']
    rfl
  unfold toks payToks
  simp only [hs, bigSep_sep']
  rw [hr, around 0 (fun c : Dev nD => (dutyTok ER (barCell c) 0 false : sProp 𝕄)),
    around 1 (fun c : Dev nD => (dutyTok ER (barCell c) 0 true : sProp 𝕄))]
  congr 1
  exact sep_flip _ _

theorem share {I : Type} [DecidableEq I] {S : Finset I} {R : sProp 𝕄} [BI.Persistent R] {P Q : I → sProp 𝕄}
    (h : ∀ i ∈ S, iprop(R ∗ P i) ⊢ Q i) : iprop(R ∗ bigSep S P) ⊢ bigSep S Q :=
  (sep_mono_left (BI.bigSep_of_persistent S R)).trans (by rw [← bigSep_sep']; exact bigSep_mono h)

theorem regroup :
    (bigSep Finset.univ fun c : Dev nD => iprop(invsE m c ∗ (bigSep Finset.univ fun x : CIx => reached ER (kcell (c, x)) 0)
          ∗ (bigSep Finset.univ fun x : CIx => atPos ER (kcell (c, x)) 0 ∅ 0) ∗ toks c ∗ cps c) : sProp 𝕄)
      ⊢ bigSep Finset.univ (G' m) := by
  have hl : (iprop((bigSep Finset.univ fun c : Dev nD => bigSep Finset.univ fun x : CIx => atPos ER (kcell (c, x)) 0 ∅ 0)
      ∗ (bigSep Finset.univ fun c : Dev nD => toks c) ∗ (bigSep Finset.univ fun c : Dev nD => cps c)) : sProp 𝕄) = bigSep Finset.univ fun c : Dev nD => linear c := by
    rw [toks_around]; unfold linear; simp only [bigSep_sep']
  rw [bigSep_sep', bigSep_sep', bigSep_sep', bigSep_sep', hl, ← bigSep_univ_prod (fun ci : Dev nD × CIx => iprop(∃ κ : ℕ, cellInv ER (ringRd m) κ (kcell ci))),
    ← bigSep_univ_prod (fun ci : Dev nD × CIx => (reached ER (kcell ci) 0 : sProp 𝕄))]
  iintro ⟨HI, #HR, Hl⟩
  ihave HK := (BI.bigSep_exists_pi Finset.univ (fun (ci : Dev nD × CIx) (κ : ℕ) => (cellInv ER (ringRd m) κ (kcell ci) : sProp 𝕄))) $$ HI
  icases HK with ⟨%K, #HI⟩
  have hk (c : Dev nD) : iprop(recs m K ∗ linear c) ⊢ G' m c := by
    unfold G'
    iintro H
    iexists K
    iexact H
  iapply (share (R := recs m K) fun c _ => hk c)
  isplitr
  · unfold recs; isplitl; · iexact HI
    iexact HR
  iexact Hl

theorem glob : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => core_alloc m c).trans (bigSep_fupd _ _)).trans (BI.fupd_mono (regroup m))

end Cert.RingProof

end
-- ==== Proof.Credit.lean ====
/- The launch: what the devices owe and are owed. -/

module

public import proofs.«01_k».proof.Proof.Ghost

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

/-! ## What the devices owe each other's cells -/

theorem owed_bar (d c : Dev nD) : owed d 48 (barCell c) () = 0 := by
  by_contra h
  obtain ⟨n, -, -, e⟩ := owed_pos (le_refl 48) (Nat.pos_of_ne_zero h)
  exact absurd (congrArg Prod.snd e) (by simp)

theorem owed_recv {r : ℕ} (hr : r ≤ 48) (d c : Dev nD) (σ : Slot) :
    owed d r (recvCell c σ) () = if 48 - r ≤ slotNo σ ∧ c = dst σ.2.1 d then N else 0 := by
  induction r with
  | zero => rw [if_neg (by have := slotNo_lt σ; omega)]; rfl
  | succ r ih =>
    unfold owed
    rw [Pi.add_apply, Finsupp.add_apply, tallyAt_apply, ih (by omega)]
    by_cases hs : slotNo σ = 47 - r
    · have hσ : slotOf (47 - r) = σ := by rw [← hs, slotOf_no]
      rw [hσ, if_neg (by omega), Nat.zero_add]
      by_cases hc : c = dst σ.2.1 d
      · rw [if_pos ⟨by rw [hc], rfl⟩, if_pos ⟨by omega, hc⟩]
      · rw [if_neg (fun h => hc (dev_of_cell h.1).1), if_neg (fun h => hc h.2)]
    · have hne : ¬(recvCell c σ = recvCell (dst (slotOf (47 - r)).2.1 d) (slotOf (47 - r)) ∧ () = ()) := fun h => by
        have h1 := csem_injective (a₁ := some (true, σ)) (a₂ := some (true, slotOf (47 - r))) (dev_of_cell h.1).2
        have h2 : σ = slotOf (47 - r) := congrArg Prod.snd (Option.some.inj h1)
        exact hs (by rw [h2, slotNo_of (by omega)])
      rw [if_neg hne, Nat.add_zero]
      exact if_congr (and_congr_left' (by omega)) rfl rfl

theorem owes_bar (d c : Dev nD) : O₀ d (barCell c) () = (if d = src 0 c then 1 else 0) + (if d = src 1 c then 1 else 0) := by
  have h (k : Fin 2) : (if barCell c = barCell (dst k d) ∧ () = () then 1 else 0) = if d = src k c then 1 else 0 :=
    if_congr ⟨fun e => by rw [(dev_of_cell e.1).1, src_dst], fun e => ⟨by rw [e, dst_src], rfl⟩⟩ rfl rfl
  unfold O₀ O₁
  rw [Pi.add_apply, Finsupp.add_apply, Pi.add_apply, Finsupp.add_apply, owed_bar, tallyAt_apply, tallyAt_apply, Nat.zero_add, h, h]

theorem owes_recv (d c : Dev nD) (σ : Slot) : O₀ d (recvCell c σ) () = if d = src σ.2.1 c then N else 0 := by
  have h (e : Dev nD) : ¬(recvCell c σ = barCell e ∧ () = ()) := fun h => absurd (dev_of_cell h.1).2 (by simp)
  unfold O₀ O₁
  rw [Pi.add_apply, Finsupp.add_apply, Pi.add_apply, Finsupp.add_apply, owed_recv (le_refl 48), tallyAt_apply, tallyAt_apply, if_neg (h _), if_neg (h _), Nat.add_zero]
  exact if_congr ⟨fun e => by rw [e.2, src_dst], fun e => ⟨by omega, by rw [e, dst_src]⟩⟩ rfl rfl

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib,
    Finset.sum_ite_eq' Finset.univ (src 0 c) fun _ => 1, Finset.sum_ite_eq' Finset.univ (src 1 c) fun _ => 1, if_pos (Finset.mem_univ _), if_pos (Finset.mem_univ _)]

theorem credit_recv (c : Dev nD) (σ : Slot) :
    tallyOn (recvCell c σ) (launchCredit (Pipeline.owing O₀) 0 (recvCell c σ)) = (tallyAt (recvCell c σ) () N : CellTallies nD τ sig Unit) := by
  unfold tallyAt; refine congrArg _ (Finsupp.ext fun u => ?_); cases u
  rw [Pipeline.launchCredit_owing, Finsupp.single_eq_same, Finset.sum_congr rfl fun d _ => owes_recv d c σ,
    Finset.sum_ite_eq' Finset.univ (src σ.2.1 c) fun _ => N, if_pos (Finset.mem_univ _)]

/-- A device's receive semaphores, as slots. -/
def recvEmb : Slot ↪ SemLoc sig := ⟨fun σ => .dma (recvS σ), fun σ σ' h => by
  have h1 := csem_injective (a₁ := some (true, σ)) (a₂ := some (true, σ')) h
  exact congrArg Prod.snd (Option.some.inj h1)⟩

theorem creds (c : Dev nD) : (Pipeline.launchCred O₀ c : sProp 𝕄)
    ⊢ iprop(cred (tallyAt (barCell c) () 2) ∗ bigSep Finset.univ fun σ : Slot => cred (tallyAt (recvCell c σ) () N)) := by
  unfold Pipeline.launchCred
  rw [bigSep_univ_at _ (SemLoc.reg barS), credit_bar]
  refine sep_mono_right ?_
  refine (bigSep_subset (t := Finset.univ.map recvEmb) fun x hx => ?_).trans ?_
  · obtain ⟨σ, -, rfl⟩ := Finset.mem_map.mp hx
    exact Finset.mem_erase.mpr ⟨fun h => (by cases h), Finset.mem_univ _⟩
  rw [bigSep_map]
  exact bigSep_mono fun σ _ => show _ ⊢ _ from Entails.of_eq (congrArg cred (credit_recv c σ))

end Cert.RingProof

end
-- ==== Proof.Trip1.lean ====
/-
# The first loop: each chunk's first product, sent both ways

Trip `k` multiplies chunk `k` of the block that starts each direction's journey, stages the product and sends it.
-/
module

public import proofs.«01_k».proof.Proof.Trips

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

/-- One trip's slot before, in direction `d`, -/
def pre1 (c : Dev nD) (d : Fin 2) (k : Fin 4) : sProp 𝕄 := iprop(sendR c 0 d k ∗ ownE (F := F) c (stM d k))

theorem trip1 (c : Dev nD) {h0 h1 h2 h3 h4 h5 h6 h7 h8} (v2 v4 : BitVec 32) (t : Fin k0_t1_loop.trips) :
    iprop(records m K ∗ bufs m c ∗ owesE c (48 - 2 * t.val) ∗ pre1 c 0 (ch t.val) ∗ pre1 c 1 (ch t.val))
      ⊢ wp frame (wpE (defs₀ (F := F)) 𝒱₀ (c : Thread nD τ) none) Set.univ
          (k0_t1_body xW h0 (Memref.whole main_arg1) h1 outW h2 rbW h3 stW h4 wM h5 vaM h6 vbM h7 vxM h8
            cc0_scratch4 cc0_scratch5 cc0_scratch6 cc0_scratch7 cc0_scratch8 c v2 v4 t ())
          (fun _ => iprop(bufs m c ∗ owesE c (48 - 2 * (t.val + 1)) ∗ credS c 0 0 (ch t.val) ∗ credS c 0 1 (ch t.val))) := by
  have ht : t.val < 4 := t.isLt
  have hk : (ch t.val).val = t.val := Nat.mod_eq_of_lt ht
  obtain ⟨r, hr⟩ : ∃ r, 48 - 2 * t.val = r + 1 + 1 := ⟨46 - 2 * t.val, by omega⟩
  have hr' : 48 - 2 * (t.val + 1) = r := by omega
  rw [hr, hr']
  unfold k0_t1_body
  simp only [k0_part1_eq_skeleton, k0_part2_eq_skeleton]
  unfold k0_part1_skel k0_part2_skel
  simp only [Prog.lift, Prog.bind_op, Prog.bind_ret, Prog.pure_eq_ret]
  unfold bufs pre1
  iintro ⟨#Hrec, ⟨Hx, Hw, Ha, Hb, Hvx, Hc0, Hc1, Hc2⟩, HO, ⟨HS0, Hst0⟩, ⟨HS1, Hst1⟩⟩
  iapply (wp_copy m K c (cp_at 2 rfl) (x_at _ _ (off1 c t)) rfl numel_chunk (lends_x m c (blk 0 0 c) (ch t.val)) (r := r + 1 + 1) (by omega)) $$ [Hx Hvx Hc2 HO]
  · iframe Hrec Hx Hvx Hc2 HO
  iintro ⟨Hx, Hvx, Hc2, HO⟩
  iapply (wp_loadFull c) $$ Hvx
  iintro Hvx
  iapply (wp_loadHalf m c 0 rfl) $$ Hw
  iintro Hw
  iapply (wp_loadAny c) $$ Ha
  iintro Ha
  iapply (wp_storeFull c) $$ Ha
  iintro Ha
  iapply (wp_copy m K c (cp_at 0 rfl) rfl (st_at 0 (ch t.val) (off2 t)) numel_chunk (lends_own c vaM _) (r := r + 1 + 1) (by omega)) $$ [Ha Hst0 Hc0 HO]
  · iframe Hrec Ha Hst0 Hc0 HO
  iintro ⟨Ha, Hst0, Hc0, HO⟩
  iapply (wp_sendSlot m K c 0 0 (ch t.val) (r := r + 1) (slotOf_at 0 0 _ (by simp; omega)) (dev3 c) (st_at 0 (ch t.val) (off2 t))
    (rb_at 0 0 (ch t.val) (off4 t)) (rs_send_at 0 0 (ch t.val) (off3 t)) (rs_recv_at 0 0 (ch t.val) (off3 t)) rfl) $$ [Hst0 HS0 HO]
  · iframe Hrec Hst0 HS0 HO
  iintro ⟨HC0, HO⟩
  ihave Ha := (own_any c vaM _) $$ Ha
  ihave Hvx := (own_any c vxM _) $$ Hvx
  iapply (wp_copy m K c (cp_at 2 rfl) (x_at _ _ (off5 c t)) rfl numel_chunk (lends_x m c (blk 1 0 c) (ch t.val)) (r := r + 1) (by omega)) $$ [Hx Hvx Hc2 HO]
  · iframe Hrec Hx Hvx Hc2 HO
  iintro ⟨Hx, Hvx, Hc2, HO⟩
  iapply (wp_loadFull c) $$ Hvx
  iintro Hvx
  iapply (wp_loadHalf m c 1 rfl) $$ Hw
  iintro Hw
  iapply (wp_loadAny c) $$ Ha
  iintro Ha
  iapply (wp_storeFull c) $$ Ha
  iintro Ha
  iapply (wp_copy m K c (cp_at 0 rfl) rfl (st_at 1 (ch t.val) (off6 t)) numel_chunk (lends_own c vaM _) (r := r + 1) (by omega)) $$ [Ha Hst1 Hc0 HO]
  · iframe Hrec Ha Hst1 Hc0 HO
  iintro ⟨Ha, Hst1, Hc0, HO⟩
  iapply (wp_sendSlot m K c 0 1 (ch t.val) (r := r) (slotOf_at 0 1 _ (by simp; omega)) (dev4 c) (st_at 1 (ch t.val) (off6 t))
    (rb_at 1 0 (ch t.val) (off8 t)) (rs_send_at 1 0 (ch t.val) (off7 t)) (rs_recv_at 1 0 (ch t.val) (off7 t)) rfl) $$ [Hst1 HS1 HO]
  · iframe Hrec Hst1 HS1 HO
  iintro ⟨HC1, HO⟩
  ihave Ha := (own_any c vaM _) $$ Ha
  ihave Hvx := (own_any c vxM _) $$ Hvx
  iapply (le_wp_ret frame (wpE (defs₀ (F := F)) 𝒱₀ (c : Thread nD τ) none) Set.univ)
  iframe Hx Hw Ha Hb Hvx Hc0 Hc1 Hc2 HO HC0 HC1

end Cert.RingProof

end
-- ==== Proof.Trip3.lean ====
/- A finishing trip: the last product, the clamp at 0, and the first copy of the finished chunk. -/

module

public import proofs.«01_k».proof.Proof.Trip2

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

/-- What a finishing trip takes for one direction: what a send and a receipt need, and the place of the finished chunk. -/
def pre3 (c : Dev nD) (d : Fin 2) (k : Fin 4) : sProp 𝕄 :=
  iprop(sendR (F := F) c 3 d k ∗ recvR (F := F) c 2 d k ∗ ownE (F := F) c (outM c d k))
/-- What it leaves. -/
def post3 (c : Dev nD) (d : Fin 2) (k : Fin 4) : sProp 𝕄 :=
  iprop(credS (F := F) c 3 d k ∗ semVal (recvCell c (2, d, k)) 0)

/-- A finishing trip: receive the last partial sum, add this device's product, clamp at 0, write the chunk out and send it on. -/
theorem trip3 (c : Dev nD) {h0 h1 h2 h3 h4 h5 h6 h7 h8} (v2 v4 v7 : BitVec 32) (t : Fin k0_t3_loop.trips) :
    iprop(records m K ∗ bufs m c ∗ owesE c (24 - 2 * t.val) ∗ pre3 c 0 (ch t.val) ∗ pre3 c 1 (ch t.val))
      ⊢ wp frame (wpE (defs₀ (F := F)) 𝒱₀ (c : Thread nD τ) none) Set.univ
          (k0_t3_body xW h0 (Memref.whole main_arg1) h1 outW h2 rbW h3 stW h4 wM h5 vaM h6 vbM h7 vxM h8
            cc0_scratch4 cc0_scratch5 cc0_scratch6 cc0_scratch7 cc0_scratch8 c v2 v4 v7 t ())
          (fun _ => iprop(bufs m c ∗ owesE c (24 - 2 * (t.val + 1)) ∗ post3 c 0 (ch t.val) ∗ post3 c 1 (ch t.val))) := by
  have ht : t.val < 4 := t.isLt
  have hk : (ch t.val).val = t.val := Nat.mod_eq_of_lt ht
  obtain ⟨r, hr⟩ : ∃ r, 24 - 2 * t.val = r + 1 + 1 := ⟨22 - 2 * t.val, by omega⟩
  have hr' : 24 - 2 * (t.val + 1) = r := by omega
  rw [hr, hr']
  unfold k0_t3_body
  simp only [k0_part7_eq_skeleton, k0_part8_eq_skeleton, k0_part9_eq_skeleton, k0_part10_eq_skeleton]
  unfold k0_part7_skel k0_part8_skel k0_part9_skel k0_part10_skel
  simp only [Prog.lift, Prog.bind_op, Prog.bind_ret, Prog.pure_eq_ret]
  unfold bufs pre3 post3
  iintro ⟨#Hrec, ⟨Hx, Hw, Ha, Hb, Hvx, Hc0, Hc1, Hc2⟩, HO, ⟨HS0, HR0, Ho0⟩, ⟨HS1, HR1, Ho1⟩⟩
  iapply (wp_copy m K c (cp_at 2 rfl) (x_at _ _ (off19 c t)) rfl numel_chunk (lends_x m c (c) (ch t.val)) (r := r + 1 + 1) (by omega)) $$ [Hx Hvx Hc2 HO]
  · iframe Hrec Hx Hvx Hc2 HO
  iintro ⟨Hx, Hvx, Hc2, HO⟩
  iapply (wp_loadFull c) $$ Hvx
  iintro Hvx
  iapply (wp_loadHalf m c 0 rfl) $$ Hw
  iintro Hw
  iapply (wp_recvSlot m K c 2 0 (ch t.val) (r := r + 1 + 1) (by omega) (by simp; omega)
    (rs_recv_at 0 2 (ch t.val) (off20 t)) credit_rb_at) $$ [HR0 HO]
  · iframe Hrec HR0 HO
  iintro ⟨Hv0, Hrb, HO⟩
  iapply (wp_copy m K c (cp_at 1 rfl) (rb_at 0 2 (ch t.val) (off21 t)) rfl numel_chunk (lends_own c (rbM 0 2 (ch t.val)) _)
    (r := r + 1 + 1) (by omega)) $$ [Hrb Hb Hc1 HO]
  · iframe Hrec Hrb Hb Hc1 HO
  iintro ⟨-, Hb, Hc1, HO⟩
  iapply (wp_loadFull c) $$ Hb
  iintro Hb
  iapply (wp_loadAny c) $$ Ha
  iintro Ha
  iapply (wp_storeFull c) $$ Ha
  iintro Ha
  iapply (wp_copy m K c (cp_at 0 rfl) rfl (out_at c 0 (ch t.val) (off22 c t)) numel_chunk (lends_own c vaM _) (r := r + 1 + 1) (by omega)) $$ [Ha Ho0 Hc0 HO]
  · iframe Hrec Ha Ho0 Hc0 HO
  iintro ⟨Ha, Ho0, Hc0, HO⟩
  ihave Ho0 := (own_eq c (src_fin c 0 (ch t.val)).symm _) $$ Ho0
  iapply (wp_sendSlot m K c 3 0 (ch t.val) (r := r + 1) (slotOf_at _ 0 _ (by simp; omega)) (dev7 c)
    ((out_at c 0 (ch t.val) (off24 c t)).trans (src_fin c 0 (ch t.val)).symm)
    ((out_at c 0 (ch t.val) (off24 c t)).trans (dst_fin c 0 (ch t.val)).symm)
    (ag_send_at 0 0 (ch t.val) (off23 t)) (ag_recv_at 0 0 (ch t.val) (off23 t)) (val_fin m c 0 (ch t.val)).symm) $$ [Ho0 HS0 HO]
  · iframe Hrec Ho0 HS0 HO
  iintro ⟨HC0, HO⟩
  ihave Ha := (own_any c vaM _) $$ Ha
  ihave Hb := (own_any c vbM _) $$ Hb
  ihave Hvx := (own_any c vxM _) $$ Hvx
  iapply (wp_copy m K c (cp_at 2 rfl) (x_at _ _ (off19 c t)) rfl numel_chunk (lends_x m c (c) (ch t.val)) (r := r + 1) (by omega)) $$ [Hx Hvx Hc2 HO]
  · iframe Hrec Hx Hvx Hc2 HO
  iintro ⟨Hx, Hvx, Hc2, HO⟩
  iapply (wp_loadFull c) $$ Hvx
  iintro Hvx
  iapply (wp_loadHalf m c 1 rfl) $$ Hw
  iintro Hw
  iapply (wp_recvSlot m K c 2 1 (ch t.val) (r := r + 1) (by omega) (by simp; omega)
    (rs_recv_at 1 2 (ch t.val) (off25 t)) credit_rb_at) $$ [HR1 HO]
  · iframe Hrec HR1 HO
  iintro ⟨Hv1, Hrb, HO⟩
  iapply (wp_copy m K c (cp_at 1 rfl) (rb_at 1 2 (ch t.val) (off26 t)) rfl numel_chunk (lends_own c (rbM 1 2 (ch t.val)) _)
    (r := r + 1) (by omega)) $$ [Hrb Hb Hc1 HO]
  · iframe Hrec Hrb Hb Hc1 HO
  iintro ⟨-, Hb, Hc1, HO⟩
  iapply (wp_loadFull c) $$ Hb
  iintro Hb
  iapply (wp_loadAny c) $$ Ha
  iintro Ha
  iapply (wp_storeFull c) $$ Ha
  iintro Ha
  iapply (wp_copy m K c (cp_at 0 rfl) rfl (out_at c 1 (ch t.val) (off27 c t)) numel_chunk (lends_own c vaM _) (r := r + 1) (by omega)) $$ [Ha Ho1 Hc0 HO]
  · iframe Hrec Ha Ho1 Hc0 HO
  iintro ⟨Ha, Ho1, Hc0, HO⟩
  ihave Ho1 := (own_eq c (src_fin c 1 (ch t.val)).symm _) $$ Ho1
  iapply (wp_sendSlot m K c 3 1 (ch t.val) (r := r) (slotOf_at _ 1 _ (by simp; omega)) (dev8 c)
    ((out_at c 1 (ch t.val) (off29 c t)).trans (src_fin c 1 (ch t.val)).symm)
    ((out_at c 1 (ch t.val) (off29 c t)).trans (dst_fin c 1 (ch t.val)).symm)
    (ag_send_at 1 0 (ch t.val) (off28 t)) (ag_recv_at 1 0 (ch t.val) (off28 t)) (val_fin m c 1 (ch t.val)).symm) $$ [Ho1 HS1 HO]
  · iframe Hrec Ho1 HS1 HO
  iintro ⟨HC1, HO⟩
  ihave Ha := (own_any c vaM _) $$ Ha
  ihave Hb := (own_any c vbM _) $$ Hb
  ihave Hvx := (own_any c vxM _) $$ Hvx
  iapply (le_wp_ret frame (wpE (defs₀ (F := F)) 𝒱₀ (c : Thread nD τ) none) Set.univ)
  iframe Hx Hw Ha Hb Hvx Hc0 Hc1 Hc2 HO HC0 Hv0 HC1 Hv1

end Cert.RingProof

end
-- ==== Proof.Body.lean ====
/- The kernel's body on one device. -/

module

public import proofs.«01_k».proof.Proof.Barrier
public import proofs.«01_k».proof.Proof.Trip1
public import proofs.«01_k».proof.Proof.Trip3
public import proofs.«01_k».proof.Proof.Gen.KernelIdeal.Points
public import proofs.«01_k».proof.Proof.Gen.KernelIdeal.Launch

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

theorem sendR_steps (c : Dev nD) :
    iprop(Steps (slotTok (F := F) c) ∗ Steps (fun s d k => ownE (F := F) (dst d c) (dstM c s d k))) ⊢ Steps (sendR (F := F) c) := by
  refine (Entails.of_eq (steps_sep _ _).symm).trans (steps_mono fun s d k => ?_)
  unfold slotTok sendR
  iintro ⟨⟨H1, H2⟩, H3⟩
  iframe H1 H2 H3

theorem steps_out (P : Fin 6 → Fin 2 → Fin 4 → sProp 𝕄) : Steps P ⊢ iprop(St (P 0) ∗ St (P 1) ∗ St (P 2) ∗ St (P 3) ∗ St (P 4) ∗ St (P 5)) :=
  Entails.of_eq (bigSep_six fun s => St (P s))
theorem steps_in (P : Fin 6 → Fin 2 → Fin 4 → sProp 𝕄) : iprop(St (P 0) ∗ St (P 1) ∗ St (P 2) ∗ St (P 3) ∗ St (P 4) ∗ St (P 5)) ⊢ Steps P :=
  Entails.of_eq (bigSep_six fun s => St (P s)).symm

/-- The result's blocks, the four as they are named around the ring. -/
theorem outR_intro (c : Dev nD) :
    iprop(St (fun d k => own c (outM (agB d 0 c) d k) (finV m d (agB d 0 c) k)) ∗ St (fun d k => own c (outM (agB d 1 c) d k) (finV m d (agB d 1 c) k))
        ∗ St (fun d k => own c (outM (agB d 2 c) d k) (finV m d (agB d 2 c) k))
        ∗ St (fun d k => own c (dstM (src d c) 5 d k) (slotV m (src d c) 5 d k))) ⊢ outR m c := by
  rw [St_congr (dst_last m c)]
  unfold outR
  rw [← out_join c (fun b d k => own c (outM b d k) (finV m d b k)), bigSep_four]
  exact Entails.of_eq rfl

/-- The kernel's body on device `c`: the barrier, the weights' copy, and the six loops. -/
theorem body_run (c : Dev nD) :
    iprop(records m K ∗ (∃ W, owes (c : Thread nD τ) (O₀ c) W) ∗ startR m c)
      ⊢ wp frame (wpE (defs₀ (F := F)) 𝒱₀ (c : Thread nD τ) none) Set.univ (bodyAt0 (F := F) t0_0) (fun _ => iprop(finishR m c ∗ owesE c 0)) := by
  unfold bodyAt0
  simp only [cc0_body_eq_skeleton]
  unfold cc0_body_skel
  simp only [k0_part14_eq_skeleton]
  unfold k0_part14_skel
  simp only [semSignalWord, semWaitWord, Prog.lift, Prog.bind_op, Prog.bind_ret, Prog.pure_eq_ret, Prog.bind_assoc, wp_deviceId]
  unfold startR barR placesR bufs₀
  iintro ⟨#Hrec, HO, ⟨HtT, HtF, Hat, Hcr⟩, Htok, HR, HP, ⟨Hs0, Hs1, Hst, Hout⟩, Hx, Hw1, Hw, Ha, Hb, Hvx, Hc0, Hc1, Hc2⟩
  iapply (wp_sig m K c (dst 1 c) true (by decide) (O₁ c) (O₀ c) rfl (dev1 c)) $$ [HO HtT Hs0]
  · iframe Hrec HO HtT
    iexact Hs0
  iintro HO
  iapply (wp_sig m K c (dst 0 c) false (by decide) (owed c 48) (O₁ c) rfl (dev2 c)) $$ [HO HtF Hs1]
  · iframe Hrec HO HtF
    iexact Hs1
  iintro HO
  iapply (wp_bar m K c (by decide)) $$ [HO Hat Hcr]
  · iframe Hrec HO Hat Hcr
  iintro ⟨HO, HB, Hpl⟩
  iapply (wp_copy m K c (cp_at 2 rfl) rfl rfl numel_w (lends_own c (Memref.whole main_arg1) (wFull m c)) (r := 48) (by omega)) $$ [Hw1 Hw Hc2 HO]
  · iframe Hrec Hw1 Hw Hc2 HO
  iintro ⟨Hw1, Hw, Hc2, HO⟩
  -- the slots' resources, by step
  ihave HS := (sendR_steps (F := F) c) $$ [Htok Hpl]
  · isplitl [Htok] <;> iassumption
  ihave HS := (steps_out _) $$ HS
  icases HS with ⟨HS0, HS1, HS2, HS3, HS4, HS5⟩
  ihave HR := (steps_out _) $$ HR
  icases HR with ⟨HR0, HR1, HR2, HR3, HR4, HR5⟩
  ihave HP := (steps_out _) $$ HP
  icases HP with ⟨HP0, HP1, HP2, HP3, HP4, HP5⟩
  ihave Hbufs : bufs m c $$ [Hx Hw Ha Hb Hvx Hc0 Hc1 Hc2]
  · unfold bufs; iframe Hx Hw Ha Hb Hvx Hc0 Hc1 Hc2
  -- the first sends
  iapply (wp_trips m K c k0_t1_loop k0_t1_ok _ (fun t => 48 - 2 * t) _ _ (fun t => trip1 m K c _ _ t)) $$ [Hbufs HO HS0 Hst]
  · iframe Hrec Hbufs HO
    iapply (Entails.of_eq (trips4 (n := k0_t1_loop.trips) rfl (pre1 (F := F) c)).symm)
    unfold pre1
    iapply (Entails.of_eq (St_sep _ _).symm)
    isplitl [HS0] <;> iassumption
  iintro ⟨Hbufs, HO, HC0⟩
  ihave HC0 := (Entails.of_eq (trips4 (n := k0_t1_loop.trips) rfl (credS (F := F) c 0))) $$ HC0
  -- the middle stages
  iapply (wp_trips m K c k0_t2_loop k0_t2_ok _ (fun t => 40 - 2 * t) _ _ (fun t => trip2 m K c _ _ _ t)) $$ [Hbufs HO HS1 HS2 HR0 HR1]
  · iframe Hrec Hbufs HO
    iapply (Entails.of_eq (trips8 (n := k0_t2_loop.trips) rfl (fun u d k => pre2 (F := F) c d u k)).symm)
    unfold pre2
    isplitl [HS1 HR0]
    · iapply (Entails.of_eq (St_sep _ _).symm)
      isplitl [HS1]; · iexact HS1
      iexact HR0
    · iapply (Entails.of_eq (St_sep _ _).symm)
      isplitl [HS2]; · iexact HS2
      iexact HR1
  iintro ⟨Hbufs, HO, H⟩
  ihave H := (Entails.of_eq (trips8 (n := k0_t2_loop.trips) rfl (fun u d k => post2 (F := F) c d u k))) $$ H
  unfold post2
  icases H with ⟨H1, H2⟩
  ihave H1 := (Entails.of_eq (St_sep _ _)) $$ H1
  icases H1 with ⟨HC1, HV0⟩
  ihave H2 := (Entails.of_eq (St_sep _ _)) $$ H2
  icases H2 with ⟨HC2, HV1⟩
  -- the finishing trips
  iapply (wp_trips m K c k0_t3_loop k0_t3_ok _ (fun t => 24 - 2 * t) _ _ (fun t => trip3 m K c _ _ _ t)) $$ [Hbufs HO HS3 HR2 Hout]
  · iframe Hrec Hbufs HO
    iapply (Entails.of_eq (trips4 (n := k0_t3_loop.trips) rfl (pre3 (F := F) c)).symm)
    unfold pre3
    iapply (Entails.of_eq (St_sep _ _).symm)
    isplitl [HS3]; · iexact HS3
    iapply (Entails.of_eq (St_sep _ _).symm)
    isplitl [HR2] <;> iassumption
  iintro ⟨Hbufs, HO, H⟩
  ihave H := (Entails.of_eq (trips4 (n := k0_t3_loop.trips) rfl (post3 (F := F) c))) $$ H
  unfold post3
  ihave H := (Entails.of_eq (St_sep _ _)) $$ H
  icases H with ⟨HC3, HV2⟩
  -- passing the finished chunks on
  iapply (wp_trips m K c k0_t4_loop k0_t4_ok _ (fun t => 16 - 2 * t) _ _ (fun t => trip4 m K c _ _ _ _ t)) $$ [Hbufs HO HS4 HS5 HR3 HR4]
  · iframe Hrec Hbufs HO
    iapply (Entails.of_eq (trips8 (n := k0_t4_loop.trips) rfl (fun u d k => pre4 (F := F) c d u k)).symm)
    unfold pre4
    isplitl [HS4 HR3]
    · iapply (Entails.of_eq (St_sep _ _).symm)
      isplitl [HS4]; · iexact HS4
      iexact HR3
    · iapply (Entails.of_eq (St_sep _ _).symm)
      isplitl [HS5]; · iexact HS5
      iexact HR4
  iintro ⟨Hbufs, HO, H⟩
  ihave H := (Entails.of_eq (trips8 (n := k0_t4_loop.trips) rfl (fun u d k => post4 (F := F) c d u k))) $$ H
  unfold post4
  icases H with ⟨H1, H2⟩
  ihave H1 := (Entails.of_eq (St_sep _ _)) $$ H1
  icases H1 with ⟨HC4, HV3⟩
  ihave H2 := (Entails.of_eq (St_sep _ _)) $$ H2
  icases H2 with ⟨HC5, HV4⟩
  -- the last arrivals
  iapply (wp_trips m K c k0_t5_loop k0_t5_ok _ (fun _ => 0) _ _ (fun t => trip5 m K c t)) $$ [Hbufs HO HR5]
  · iframe Hrec Hbufs HO
    iapply (Entails.of_eq (trips4 (n := k0_t5_loop.trips) rfl (recvR (F := F) c 5)).symm)
    iexact HR5
  iintro ⟨Hbufs, HO, H⟩
  ihave H := (Entails.of_eq (trips4 (n := k0_t5_loop.trips) rfl (post5 m c))) $$ H
  unfold post5
  ihave H := (Entails.of_eq (St_sep _ _)) $$ H
  icases H with ⟨HV5, Ho3⟩
  -- the ends of the sends
  iapply (wp_trips m K c k0_t6_loop k0_t6_ok _ (fun _ => 0) _ _ (fun t => trip6 m K c _ t)) $$ [Hbufs HO HC0 HC1 HC2 HC3 HC4 HC5 HP0 HP1 HP2 HP3 HP4 HP5]
  · iframe Hrec Hbufs HO
    iapply (Entails.of_eq (trips12 (n := k0_t6_loop.trips) rfl (fun j d k => pre6 (F := F) c (lo 0 j.val) d k) (fun j d k => pre6 (F := F) c (lo 3 j.val) d k)).symm)
    unfold pre6
    isplitl [HC0 HP0 HC3 HP3]
    · isplitl [HC0 HP0]
      · iapply (Entails.of_eq (St_sep _ _).symm)
        isplitl [HC0]; · iexact HC0
        iexact HP0
      · iapply (Entails.of_eq (St_sep _ _).symm)
        isplitl [HC3]; · iexact HC3
        iexact HP3
    isplitl [HC1 HP1 HC4 HP4]
    · isplitl [HC1 HP1]
      · iapply (Entails.of_eq (St_sep _ _).symm)
        isplitl [HC1]; · iexact HC1
        iexact HP1
      · iapply (Entails.of_eq (St_sep _ _).symm)
        isplitl [HC4]; · iexact HC4
        iexact HP4
    · isplitl [HC2 HP2]
      · iapply (Entails.of_eq (St_sep _ _).symm)
        isplitl [HC2]; · iexact HC2
        iexact HP2
      · iapply (Entails.of_eq (St_sep _ _).symm)
        isplitl [HC5]; · iexact HC5
        iexact HP5
  iintro ⟨Hbufs, HO, H⟩
  have e6 := trips12 (n := k0_t6_loop.trips) rfl (fun j d k => post6 m c (lo 0 j.val) d k) (fun j d k => post6 m c (lo 3 j.val) d k)
  ihave H := (show _ ⊢ _ from Entails.of_eq e6) $$ [H]
  · iexact H
  unfold post6
  icases H with ⟨⟨H0, H3⟩, ⟨H1, H4⟩, H2, H5⟩
  ihave H0 := (Entails.of_eq (St_sep _ _)) $$ H0
  icases H0 with ⟨HW0, -⟩
  ihave H1 := (Entails.of_eq (St_sep _ _)) $$ H1
  icases H1 with ⟨HW1, -⟩
  ihave H2 := (Entails.of_eq (St_sep _ _)) $$ H2
  icases H2 with ⟨HW2, -⟩
  ihave H3 := (Entails.of_eq (St_sep _ _)) $$ H3
  icases H3 with ⟨HW3, Ho0⟩
  ihave H4 := (Entails.of_eq (St_sep _ _)) $$ H4
  icases H4 with ⟨HW4, Ho1⟩
  ihave H5 := (Entails.of_eq (St_sep _ _)) $$ H5
  icases H5 with ⟨HW5, Ho2⟩
  iapply (le_wp_ret frame (wpE (defs₀ (F := F)) 𝒱₀ (c : Thread nD τ) none) Set.univ)
  unfold finishR
  iframe HO Hbufs Hw1 HB
  isplitl [HW0 HW1 HW2 HW3 HW4 HW5]
  · iapply (steps_in (fun s d k => semVal (sendCell c (s, d, k)) 0))
    isplitl [HW0]; · iexact HW0
    isplitl [HW1]; · iexact HW1
    isplitl [HW2]; · iexact HW2
    isplitl [HW3]; · iexact HW3
    isplitl [HW4]; · iexact HW4
    iexact HW5
  isplitl [HV0 HV1 HV2 HV3 HV4 HV5]
  · iapply (steps_in (fun s d k => semVal (recvCell c (s, d, k)) 0))
    isplitl [HV0]; · iexact HV0
    isplitl [HV1]; · iexact HV1
    isplitl [HV2]; · iexact HV2
    isplitl [HV3]; · iexact HV3
    isplitl [HV4]; · iexact HV4
    iexact HV5
  iapply (outR_intro m c)
  isplitl [Ho0]; · iexact Ho0
  isplitl [Ho1]; · iexact Ho1
  isplitl [Ho2]; · iexact Ho2
  iexact Ho3

end Cert.RingProof

end
-- ==== Proof.Run.lean ====
/- The run of the four devices. -/

module

public import proofs.«01_k».proof.Proof.Credit
public import proofs.«01_k».proof.Proof.Body
public import Idealize.ShloMosaic.Lib.Pipeline.CollectiveSegs

@[expose] public section

noncomputable section

namespace Cert.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ)

variable (ρ : Dev nD → PrngReg)

/-! ## Before and after the kernel -/

/-- What a device starts from, its scratch buffers aside. -/
def start (c : Dev nD) : sProp 𝕄 :=
  iprop(∃ K, records m K ∗ barR c ∗ Steps (slotTok (F := F) c) ∗ Steps (recvR (F := F) c) ∗ Steps (posS (F := F) c) ∗ placesR c
    ∗ ((c : Thread nD τ).loc main_arg0 ↦{fullShare} m ((c : Thread nD τ).loc main_arg0)) ∗ own c (Memref.whole main_arg1) (wFull m c) ∗ cps c)

def Φ₀ (c : Dev nD) : sProp 𝕄 := iprop(∃ K, records m K ∗ startR m c)
def Φ₁ (c : Dev nD) : sProp 𝕄 := finishR m c

def dats (_ : Fin 1) (c : Dev nD) : Pipeline.Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_none (P : Fin cfg0.W → sProp 𝕄) : bigSep Finset.univ P = iprop(emp) := by
  rw [show (Finset.univ : Finset (Fin cfg0.W)) = ∅ from rfl, bigSep_empty]
  rfl

theorem body_done (c : Dev nD) : iprop(Φ₀ m c ∗ (dats m 0 c).owesAt () t0_0.castSucc)
    ⊢ wp frame (wpE (defs₀ (F := F)) 𝒱₀ (c : Thread nD τ) none) Set.univ (bodyAt0 (F := F) t0_0)
      (fun _ => iprop(Φ₁ m c ∗ (dats m 0 c).owesAt () t0_0.succ ∗ emp)) := by
  have h (u : PUnit) : iprop(finishR m c ∗ owesE c 0) ⊢ iprop(Φ₁ m c ∗ (dats m 0 c).owesAt () t0_0.succ ∗ emp) := by
    unfold Φ₁ Pipeline.Dat.owesAt Pipeline.owesWithin
    rw [show (dats m 0 c).owed t0_0.succ = 0 from rfl]
    iintro ⟨HF, ⟨%W', HO⟩⟩
    isplitl [HF]; · iexact HF
    isplitl [HO]
    · iexists W'
      isplitr; · ipureintro; exact fun _ _ => Or.inl trivial
      iexact HO
    iempintro
  have h₁ : iprop(Φ₀ m c ∗ (dats m 0 c).owesAt () t0_0.castSucc)
      ⊢ wp frame (wpE (defs₀ (F := F)) 𝒱₀ (c : Thread nD τ) none) Set.univ (bodyAt0 (F := F) t0_0) (fun _ => iprop(finishR m c ∗ owesE c 0)) := by
    unfold Φ₀ Pipeline.Dat.owesAt Pipeline.owesWithin
    rw [show (dats m 0 c).owed t0_0.castSucc = O₀ c from rfl]
    iintro ⟨⟨%K, HK, HS⟩, ⟨%W, -, HO⟩⟩
    iapply (body_run m K c)
    isplitl [HK]; · iexact HK
    isplitl [HO]; · iexists W; iexact HO
    iexact HS
  exact h₁.trans (wp_mono frame (wpE (defs₀ (F := F)) 𝒱₀ (c : Thread nD τ) none) Set.univ h)

/-- The library's obligation for the kernel's body. -/
theorem body_obligation (c : Dev nD) : Pipeline.BodyObligation (dats m 0 c) (defs₀ (F := F)) 𝒱₀ () Set.univ := fun t => by
  rw [fin_N0 t]
  simp only [bigSep_none]
  show iprop(Φ₀ m c ∗ (dats m 0 c).owesAt () t0_0.castSucc ∗ emp) ⊢ wp frame (wpE (defs₀ (F := F)) 𝒱₀ (c : Thread nD τ) none) Set.univ (bodyAt0 (F := F) t0_0)
      (fun _ => iprop(Φ₁ m c ∗ (dats m 0 c).owesAt () t0_0.succ ∗ emp))
  have h : iprop(Φ₀ m c ∗ (dats m 0 c).owesAt () t0_0.castSucc ∗ emp) ⊢ iprop(Φ₀ m c ∗ (dats m 0 c).owesAt () t0_0.castSucc) := by
    iintro ⟨HA, HB, -⟩
    isplitl [HA]; · iexact HA
    iexact HB
  exact h.trans (body_done m c)

theorem linear_parts (c : Dev nD) : (linear c : sProp 𝕄) ⊢ iprop(atPos ER (barCell c) 0 ∅ 0 ∗ Steps (posS (F := F) c)
    ∗ (bigSep Finset.univ fun σ : Slot => atPos ER (recvCell c σ) 0 ∅ 0)
    ∗ (dutyTok ER (barCell (dst 1 c)) 0 true ∗ dutyTok ER (barCell (dst 0 c)) 0 false) ∗ Steps (slotTok (F := F) c) ∗ cps c) := by
  unfold linear payToks
  rw [bigSep_cells, ← steps_slots (fun s d k => posS (F := F) c s d k)]
  iintro ⟨⟨HB, HS, HR⟩, ⟨HT, HU⟩, HC⟩
  isplitl [HB]; · iexact HB
  isplitl [HS]; · iexact HS
  isplitl [HR]; · iexact HR
  isplitl [HT]; · iexact HT
  isplitl [HU]; · iexact HU
  iexact HC

theorem recv_steps (c : Dev nD) : iprop((bigSep Finset.univ fun σ : Slot => cred (tallyAt (recvCell c σ) () N))
    ∗ (bigSep Finset.univ fun σ : Slot => atPos ER (recvCell c σ) 0 ∅ 0)) = (Steps (recvR (F := F) c) : sProp 𝕄) := by
  rw [← steps_slots, ← bigSep_sep']
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hx, Hw, Ho, Hr, Hs⟩, Hlev, Hcr, -, ⟨%K, HK, Hl⟩⟩
  ihave Hc := (creds (F := F) c) $$ Hcr
  icases Hc with ⟨HcB, HcR⟩
  ihave Hl := (linear_parts c) $$ Hl
  icases Hl with ⟨HaB, HaS, HaR, ⟨HtN, HtP⟩, HtS, Hcp⟩
  imodintro
  isplitl
  · unfold start barR
    iexists K
    isplitl [HK Hlev]
    · iapply (recs_records m K)
      isplitl [HK]; · iexact HK
      iexact Hlev
    isplitl [HtN HtP HaB HcB]
    · isplitl [HtN]; · iexact HtN
      isplitl [HtP]; · iexact HtP
      isplitl [HaB]; · iexact HaB
      iexact HcB
    isplitl [HtS]; · iexact HtS
    isplitl [HcR HaR]
    · iapply (Entails.of_eq (recv_steps c))
      isplitl [HcR]; · iexact HcR
      iexact HaR
    isplitl [HaS]; · iexact HaS
    isplitl [Ho Hr Hs]
    · iapply (place_start c)
      isplitl [Ho]
      · iexists _
        iapply (Entails.of_eq (owns_whole (c : Thread nD τ) main_v1_0 fullShare (m ((c : Thread nD τ).loc main_v1_0))).symm)
        iexact Ho
      isplitl [Hr]
      · iexists _
        iapply (Entails.of_eq (owns_whole (c : Thread nD τ) main_v1_1 fullShare (m ((c : Thread nD τ).loc main_v1_1))).symm)
        iexact Hr
      · iexists _
        iapply (Entails.of_eq (owns_whole (c : Thread nD τ) main_v1_2 fullShare (m ((c : Thread nD τ).loc main_v1_2))).symm)
        iexact Hs
    isplitl [Hx]; · iexact Hx
    isplitl [Hw]
    · iapply (Entails.of_eq (owns_whole (c : Thread nD τ) main_arg1 fullShare (m ((c : Thread nD τ).loc main_arg1))).symm)
      iexact Hw
    iexact Hcp
  · iempintro

/-- A whole buffer at some contents. -/
theorem scratch_in (c : Dev nD) (b : Ref sig .tc) {sh : Shape} {sp : Space} (M : Memref sig .tc sp sh .f32) (h : M.IsWhole) :
    (iprop(∃ f : Buf (Elt F) (M.view.loc (c : Thread nD τ)), M.view.loc (c : Thread nD τ) ↦{fullShare} f) : sProp 𝕄) = ownE (F := F) c M :=
  (h.exists_owns_eq fullShare).symm

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start startR bufs₀
  iintro ⟨⟨%K, HK, HB, HT, HR, HS, HP, Hx, Hw, Hc0, Hc1, Hc2⟩, -, HA, HD, HE, HG⟩
  iexists K
  isplitl [HK]; · iexact HK
  isplitl [HB]; · iexact HB
  isplitl [HT]; · iexact HT
  isplitl [HR]; · iexact HR
  isplitl [HS]; · iexact HS
  isplitl [HP]; · iexact HP
  isplitl [Hx]; · iexact Hx
  isplitl [Hw]; · iexact Hw
  isplitl [HA]; · iapply (Entails.of_eq (scratch_in c cc0_scratch0 wM (Memref.isWhole_whole _))); iexact HA
  isplitl [HD]; · iapply (Entails.of_eq (scratch_in c cc0_scratch1 vaM (Memref.isWhole_whole _))); iexact HD
  isplitl [HE]; · iapply (Entails.of_eq (scratch_in c cc0_scratch2 vbM (Memref.isWhole_whole _))); iexact HE
  isplitl [HG]; · iapply (Entails.of_eq (scratch_in c cc0_scratch3 vxM (Memref.isWhole_whole _))); iexact HG
  isplitl [Hc0]; · iexact Hc0
  isplitl [Hc1]; · iexact Hc1
  iexact Hc2

/-- What is left in main memory, and the barrier semaphore. -/
def final (c : Dev nD) : sProp 𝕄 :=
  iprop(((c : Thread nD τ).loc main_arg0 ↦{fullShare} m ((c : Thread nD τ).loc main_arg0)) ∗ ((c : Thread nD τ).loc main_arg1 ↦{fullShare} m ((c : Thread nD τ).loc main_arg1))
    ∗ ((c : Thread nD τ).loc main_v1_0 ↦{fullShare} (outV m : Buf (Elt F) ((c : Thread nD τ).loc main_v1_0))) ∗ unscopedSems0 c)

theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest0_eq, ownSems0_eq]
  unfold Φ₁ finishR bufs final
  rw [unscopedSems0_eq]
  iintro ⟨⟨Hx, HA, HD, HE, HG, Hc0, Hc1, Hc2⟩, Hw, HB, HS, HR, HO⟩
  ihave HO := (out_done m c) $$ HO
  isplitl [Hx Hw HO HB]
  · isplitl [Hx]; · iexact Hx
    isplitl [Hw]
    · iapply (Entails.of_eq (owns_whole (c : Thread nD τ) main_arg1 fullShare (m ((c : Thread nD τ).loc main_arg1))))
      iexact Hw
    isplitl [HO]
    · iapply (Entails.of_eq (owns_whole (c : Thread nD τ) main_v1_0 fullShare (outV m)))
      iexact HO
    iexact HB
  isplitl [Hc0 Hc1 Hc2 HS HR]
  · isplitl [Hc0 Hc1 Hc2]
    · isplitl [Hc0]; · iexact Hc0
      isplitl [Hc1]; · iexact Hc1
      iexact Hc2
    isplitl [HS]
    · iapply (show _ ⊢ _ from Entails.of_eq (steps_slots fun s d k => semVal (sendCell c (s, d, k)) 0).symm); iexact HS
    · iapply (show _ ⊢ _ from Entails.of_eq (steps_slots fun s d k => semVal (recvCell c (s, d, k)) 0).symm); iexact HR
  isplitl [HA]
  · iapply (Entails.of_eq (scratch_in c cc0_scratch0 wM (Memref.isWhole_whole _)).symm); iexists _; iexact HA
  isplitl [HD]; · iapply (Entails.of_eq (scratch_in c cc0_scratch1 vaM (Memref.isWhole_whole _)).symm); iexact HD
  isplitl [HE]; · iapply (Entails.of_eq (scratch_in c cc0_scratch2 vbM (Memref.isWhole_whole _)).symm); iexact HE
  iapply (Entails.of_eq (scratch_in c cc0_scratch3 vxM (Memref.isWhole_whole _)).symm); iexact HG

theorem waits (c : Dev nD) : (levAts L lv : sProp 𝕄) ⊢ Pipeline.cellsWaits cfgs (dats m) () 0 c :=
  Pipeline.cellsWaits_intro cfgs (dats m) () 0 c fun w => w.elim0

/-! ## The run -/

/-- The memory of a device after the run. -/
abbrev Mem (s : MemSt nD τ sig (Elt F)) (c : Dev nD) : Prop :=
  s.mem ((c : Thread nD τ).loc main_v1_0) = (outV m : Buf (Elt F) ((c : Thread nD τ).loc main_v1_0))
    ∧ s.mem ((c : Thread nD τ).loc main_arg0) = m ((c : Thread nD τ).loc main_arg0)
    ∧ s.mem ((c : Thread nD τ).loc main_arg1) = m ((c : Thread nD τ).loc main_arg1)

theorem final_read (c : Dev nD) (s' : Phys nD τ sig (Elt F)) : iprop(final m c ∗ emp ∗ SI s')
    ⊢ |={Set.univ}=> iprop(⌜Mem m s'.mem c ∧ ∀ sm : SemLoc sig, sm.isScoped .tc = false → s'.mem.sem ((c.tc : Thread nD τ), sm) = 0⌝ ∗ SI s') := by
  unfold final
  iintro ⟨⟨Hx, Hw, Ho, Hu⟩, -, HSI⟩
  icombine HSI Hx gives %hx
  icombine HSI Hw gives %hw
  icombine HSI Ho gives %ho
  imod (Pipeline.unscopedSems0_read (X := unscopedSems0 c) (c := c) fupd_intro s') $$ [Hu HSI] with ⟨%hu, HSI⟩
  · isplitl [Hu]; · iexact Hu
    iexact HSI
  imodintro
  isplitr
  · ipureintro
    exact ⟨⟨Buf.eq_of_forall_mem_univ ho, Buf.eq_of_forall_mem_univ hx, Buf.eq_of_forall_mem_univ hw⟩, hu⟩
  iexact HSI

set_option maxRecDepth 8000 in
/-- From any memory with every counter zero, each fair execution of the four devices ends; then every device holds the
    result, its arguments are as they were, and every counter is zero again. -/
theorem run_main : θ_run defs (onTc (τ := τ) (main (F := F))) (s₀ m ρ) (fun r => (∀ c, Mem m r.2 c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := own_u₀ $$ Hu
      icases H with ⟨HP, HX⟩
      imod (fund_ring m) $$ HX with HG
      imodintro
      isplitl [HP]; · iexact HP
      iexact HG)
    (hglob := glob m)
    (hA := fun _ w => w.elim0) (hpf := fun _ k => k.elim0)
    (X := start m) (Y := final m) (Z := fun _ => iprop(emp))
    (hX := start_intro m ρ) (hin := phi0_intro m) (hout := phi1_exit m)
    (QY := fun c s => Mem m s c ∧ ∀ sm : SemLoc sig, sm.isScoped .tc = false → s.sem ((c.tc : Thread nD τ), sm) = 0)
    (hY := final_read m)
    (hQ := fun _ h hs => ⟨fun c => (h c).2.2.1, sem_eq_zero hs fun c => (h c).2.2.2⟩)

end Cert.RingProof

end
-- ==== Proof.Chunk.lean ====
/- What one chunk of the kernel's work computes over the extended reals. -/

module

public import proofs.«01_k».proof.Proof.Split
public import Idealize.ShloMosaic.Lib.MatmulPlain
public import Idealize.ShloMosaic.Lib.ValueIdx
public import Idealize.ShloMosaic.Lib.Pipeline.Value

@[expose] public section

noncomputable section

namespace Cert.RingProof

open Cert.KernelIdeal Cert.KernelIdeal.Gen

open Idealize.ShloMosaic Idealize.ShloMosaic.TcCoe Idealize.ShloMosaic.ValueIdx
open scoped BigOperators

/-- The entry of a product of a 512 by 2048 and a 2048 by 2048 matrix. -/
def dotP (x : Vec Ideal S512x2048 .f32) (w : Vec Ideal S2048x2048 .f32) (r : Fin 512) (q : Fin 2048) : EReal :=
  ∑ t : Fin 2048, x (ix2 r t) * w (ix2 t q)

/-- The matrix unit's product, added to zero, is that entry. -/
theorem pay5_apply (x : Vec Ideal S512x2048 .f32) (w : Vec Ideal S2048x2048 .f32) (r : Fin 512) (q : Fin 2048) :
    k0_pay5 x w (ix2 r q) = dotP x w r q := by
  refine (Ideal.matmul_plain_apply (M := 512) (K := 2048) (N := 2048) none x w (constant S512x2048 .f32 0x00000000#32) r q).trans ?_
  show Ideal.ofBits .f32 0x00000000#32 + _ = _
  rw [Ideal.ofBits_zero_f32, zero_add]
  rfl

/-- The partial sum that starts the ring: the product alone. -/
theorem mm_apply (x : Vec Ideal S512x2048 .f32) (w : Vec Ideal S2048x2048 .f32) (r : Fin 512) (q : Fin 2048) :
    mm x w (ix2 r q) = dotP x w r q := by
  have e : mm x w = k0_pay5 x w := shapeCast_self _ _
  rw [e, pay5_apply]

/-- A later partial sum: what arrived, and the product. -/
theorem mmAdd_apply (x : Vec Ideal S512x2048 .f32) (w : Vec Ideal S2048x2048 .f32) (v : Vec Ideal S512x2048 .f32) (r : Fin 512) (q : Fin 2048) :
    mmAdd x w v (ix2 r q) = (v (ix2 r q) : EReal) + dotP x w r q := by
  have e : mmAdd x w v = addf (φ := .f32) v (k0_pay5 x w) := shapeCast_self _ _
  rw [e, addf_apply, pay5_apply]

/-- The last: the sum completed, and its negative part cut off. -/
theorem mmRelu_apply (x : Vec Ideal S512x2048 .f32) (w : Vec Ideal S2048x2048 .f32) (v : Vec Ideal S512x2048 .f32) (r : Fin 512) (q : Fin 2048) :
    mmRelu x w v (ix2 r q) = max ((v (ix2 r q) : EReal) + dotP x w r q) 0 := by
  have e : mmRelu x w v
      = maximumf (addf (φ := .f32) v (k0_pay5 x w)) (broadcast S512x2048 (Scalar.ofBits (F := Ideal) .f32 0x00000000#32)) := shapeCast_self _ _
  rw [e, maximumf_apply, addf_apply, pay5_apply, broadcast_apply]
  show max _ (Ideal.ofBits .f32 0x00000000#32) = _
  rw [Ideal.ofBits_zero_f32]

end Cert.RingProof

end
-- ==== Proof.Ref.lean ====
/- What the reference computes, its long sums cut into the four devices' shares. -/

module

public import proofs.«01_k».proof.Proof.Gen.ReferenceIdeal
public import proofs.«01_k».proof.Proof.Gen.ReferenceIdeal.Run
public import Idealize.ShloMosaic.Lib.StackMember
public import Idealize.ShloMosaic.Lib.ValueIdx

@[expose] public section

noncomputable section

namespace Cert.RingRef

open Cert.ReferenceIdeal Cert.ReferenceIdeal.Gen

open Idealize.ShloMosaic Idealize.ShloMosaic.TcCoe Idealize.ShloMosaic.ValueIdx
open scoped BigOperators

variable (X : Vec Ideal S8192x8192 .f32) (W : Vec Ideal S8192x4096 .f32)

/-- Place `t` of the contracted positions that device `e` holds. -/
def held (e : Fin 4) (t : Fin 2048) : Fin 8192 := ⟨2048 * e.val + t.val, by omega⟩

/-- Device `e`'s share of an entry of the product. -/
def share (e : Fin 4) (r : Fin 8192) (q : Fin 4096) : EReal :=
  ∑ t : Fin 2048, X (ix2 r (held e t)) * W (ix2 (held e t) q)

/-- A sum over the contracted positions, device by device. -/
theorem sum_held (f : Fin 8192 → EReal) : ∑ j : Fin 8192, f j = ∑ e : Fin 4, ∑ t : Fin 2048, f (held e t) := by
  rw [← Fintype.sum_prod_type' (f := fun e t => f (held e t)), ← Equiv.sum_comp (finProdFinEquiv : Fin 4 × Fin 2048 ≃ Fin (4 * 2048)) f]
  refine Finset.sum_congr rfl fun p _ => congrArg f (Fin.ext ?_)
  show p.2.val + 2048 * p.1.val = 2048 * p.1.val + p.2.val
  omega

/-- The reference's result. -/
def refV : Vec Ideal S8192x4096 .f32 :=
  maximumf (F := Ideal) (φ := .f32) (Host.dotGeneral (F := Ideal) (φ₁ := .f32) (φ₂ := .f32) dot_S8192x8192_S8192x4096_S8192x4096_1_0_0_1_n_n none X W)
    (broadcastInDim S8192x4096 ![] bcast_S_S8192x4096 (constant S_ .f32 0x00000000#32))

/-- An entry of it: the four shares summed, and the negative part cut off. -/
theorem refV_apply (r : Fin 8192) (q : Fin 4096) : refV X W (ix2 r q) = max (∑ e : Fin 4, share X W e r q) 0 := by
  have h : Host.dotGeneral (F := Ideal) (φ₁ := .f32) (φ₂ := .f32) dot_S8192x8192_S8192x4096_S8192x4096_1_0_0_1_n_n none X W (ix2 r q)
      = ∑ e : Fin 4, share X W e r q :=
    (StackMember.dotGeneral_plain_apply (m := 8192) (k := 8192) (n := 4096) none X W r q).trans
      (sum_held fun j => X (ix2 r j) * W (ix2 j q))
  unfold refV
  rw [maximumf_apply, h]
  show max _ (Ideal.ofBits .f32 0x00000000#32) = _
  rw [Ideal.ofBits_zero_f32]

end Cert.RingRef

end
-- ==== Proof.Equation.lean ====
/- The equation: what the ring leaves on every device is what the reference computes. -/

module

public import proofs.«01_k».proof.Proof.Chunk
public import proofs.«01_k».proof.Proof.Ref
public import Idealize.ShloMosaic.Lib.Layout

@[expose] public section

noncomputable section

namespace Cert.RingProof

open Cert.KernelIdeal Cert.KernelIdeal.Gen

open Idealize.ShloMosaic Idealize.ShloMosaic.TcCoe Idealize.ShloMosaic.ValueIdx
open Cert.RingRef
open scoped BigOperators

/-! ## The way round the ring -/

/-- A chunk's partial sums, two, one and no steps before the last, are all of one block of rows: that of the device that
    finishes it. -/
theorem blk_two (d : Fin 2) (b : Dev nD) : blk d 2 (src d b) = b := by revert d b; decide
theorem blk_one (d : Fin 2) (b : Dev nD) : blk d 1 (src d (src d b)) = b := by revert d b; decide
theorem blk_nought (d : Fin 2) (b : Dev nD) : blk d 0 (src d (src d (src d b))) = b := by revert d b; decide

/-- The four devices a partial sum passes are all four, whichever way it goes and wherever it ends. -/
theorem sum_ring (f : Fin 4 → EReal) (d : Fin 2) (b : Dev nD) :
    f (src d (src d (src d b))) + f (src d (src d b)) + f (src d b) + f b = ∑ e : Fin 4, f e := by
  have hp : (({src d (src d (src d b)), src d (src d b), src d b, b} : Finset (Fin 4)) = Finset.univ)
      ∧ src d (src d (src d b)) ∉ ({src d (src d b), src d b, b} : Finset (Fin 4))
      ∧ src d (src d b) ∉ ({src d b, b} : Finset (Fin 4)) ∧ src d b ∉ ({b} : Finset (Fin 4)) := by
    revert d b; decide
  obtain ⟨h, h1, h2, h3⟩ := hp
  rw [← h, Finset.sum_insert h1, Finset.sum_insert h2, Finset.sum_insert h3, Finset.sum_singleton, add_assoc, add_assoc]

/-! ## What the devices hold of the whole arrays -/

variable (m : (ℓ : Loc nD τ sig) → Buf (Elt Ideal) ℓ) (X : Vec Ideal Cert.ReferenceIdeal.S8192x8192 .f32)
  (W : Vec Ideal Cert.ReferenceIdeal.S8192x4096 .f32)

/-- Row `r` of chunk `k` of block `b`; column `q` of half `d`. -/
def rowOf (b k : Fin 4) (r : Fin 512) : Fin 8192 := ⟨2048 * b.val + 512 * k.val + r.val, by omega⟩
def colOf (d : Fin 2) (q : Fin 2048) : Fin 4096 := ⟨2048 * d.val + q.val, by omega⟩

/-- Each device's columns of the one array and rows of the other. -/
abbrev Held : Prop := ∀ c : Dev nD,
  m ((c.tc : Thread nD τ).loc main_arg0) = Layout.block ⟨2, ![8192, 2048]⟩ ⟨2, ![8192, 8192]⟩ 1 4 c X
  ∧ m ((c.tc : Thread nD τ).loc main_arg1) = Layout.block ⟨2, ![2048, 4096]⟩ ⟨2, ![8192, 4096]⟩ 0 4 c W

variable {m X W}

theorem xc_apply (H : Held m X W) (c : Dev nD) (b k : Fin 4) (r : Fin 512) (t : Fin 2048) :
    xc m c b k (ix2 r t) = X (ix2 (rowOf b k r) (held c t)) := by
  have e : xc m c b k (ix2 r t) = m ((c.tc : Thread nD τ).loc main_arg0) ((xM b k).view.emb (ix2 r t)) := rfl
  rw [e, (H c).1, Layout.block_apply]
  refine congrArg X (funext fun a => Fin.ext ?_)
  match a with
  | ⟨0, _⟩ => show 2048 * b.val + 512 * k.val + 1 * r.val = 2048 * b.val + 512 * k.val + r.val; omega
  | ⟨1, _⟩ => show c.val * 2048 + (0 + 1 * t.val) = 2048 * c.val + t.val; omega

theorem wc_apply (H : Held m X W) (c : Dev nD) (d : Fin 2) (t : Fin 2048) (q : Fin 2048) :
    wc m c d (ix2 t q) = W (ix2 (held c t) (colOf d q)) := by
  have e : wc m c d (ix2 t q) = m ((c.tc : Thread nD τ).loc main_arg1) ((wR d).emb (ix2 t q)) := rfl
  rw [e, (H c).2, Layout.block_apply]
  refine congrArg W (funext fun a => Fin.ext ?_)
  match a with
  | ⟨0, _⟩ => show c.val * 2048 + (0 + 1 * t.val) = 2048 * c.val + t.val; omega
  | ⟨1, _⟩ => show 2048 * d.val + 1 * q.val = 2048 * d.val + q.val; omega

/-- So a device's product is its share. -/
theorem dotP_share (H : Held m X W) (c : Dev nD) (d : Fin 2) (b k : Fin 4) (r : Fin 512) (q : Fin 2048) :
    dotP (xc m c b k) (wc m c d) r q = share X W c (rowOf b k r) (colOf d q) :=
  Finset.sum_congr rfl fun t _ => by rw [xc_apply H, wc_apply H]

/-! ## The sums that go round, and the result -/

/-- A finished chunk holds the four shares summed, and the negative part cut off. -/
theorem finV_apply (H : Held m X W) (d : Fin 2) (b : Dev nD) (k : Fin 4) (r : Fin 512) (q : Fin 2048) :
    finV m d b k (ix2 r q) = max (∑ e : Fin 4, share X W e (rowOf b k r) (colOf d q)) 0 := by
  have e0 : rsV m d 0 (src d (src d (src d b))) k (ix2 r q) = share X W (src d (src d (src d b))) (rowOf b k r) (colOf d q) := by
    rw [rsV, mm_apply, blk_nought, dotP_share H]
  have e1 : (rsV m d 1 (src d (src d b)) k (ix2 r q) : EReal)
      = share X W (src d (src d (src d b))) (rowOf b k r) (colOf d q) + share X W (src d (src d b)) (rowOf b k r) (colOf d q) := by
    rw [rsV, mmAdd_apply, blk_one, dotP_share H, e0]
  have e2 : (rsV m d 2 (src d b) k (ix2 r q) : EReal)
      = share X W (src d (src d (src d b))) (rowOf b k r) (colOf d q) + share X W (src d (src d b)) (rowOf b k r) (colOf d q)
        + share X W (src d b) (rowOf b k r) (colOf d q) := by
    rw [rsV, mmAdd_apply, blk_two, dotP_share H, e1]
  rw [finV, mmRelu_apply, blk_three, dotP_share H, e2, sum_ring fun e => share X W e (rowOf b k r) (colOf d q)]

/-- The array every device ends with is the reference's. -/
theorem outV_eq (H : Held m X W) : outV m = refV X W := by
  funext i
  have h0 : (i 0).val < 8192 := (i 0).isLt
  have h1 : (i 1).val < 4096 := (i 1).isLt
  have hi : i = ix2 (rowOf (outAt i).1 (outAt i).2.2 ⟨(i 0).val % 512, by omega⟩) (colOf (outAt i).2.1 ⟨(i 1).val % 2048, by omega⟩) := by
    funext a
    apply Fin.ext
    match a with
    | ⟨0, _⟩ => show (i 0).val = 2048 * ((i 0).val / 2048) + 512 * ((i 0).val % 2048 / 512) + (i 0).val % 512; omega
    | ⟨1, _⟩ => show (i 1).val = 2048 * ((i 1).val / 2048) + (i 1).val % 2048; omega
  have hj : outIn i = ix2 (⟨(i 0).val % 512, by omega⟩ : Fin 512) (⟨(i 1).val % 2048, by omega⟩ : Fin 2048) := by
    funext a
    apply Fin.ext
    match a with
    | ⟨0, _⟩ => rfl
    | ⟨1, _⟩ => rfl
  refine Eq.trans ?_ (congrArg (refV X W) hi).symm
  rw [refV_apply]
  show finV m (outAt i).2.1 (outAt i).1 (outAt i).2.2 (outIn i) = _
  rw [hj, finV_apply H]

end Cert.RingProof

end
-- ==== Proof.lean ====
/-
  The certificate's claims put together: the run of the four devices (Proof/Run.lean) gives the two frames of the
  kernel and its results, and the reference's run its own.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Lib.Quiescent

@[expose] public section

noncomputable section

namespace Cert.Proof

open Idealize.ShloMosaic Idealize.ShloMosaic.TcCoe
open Idealize.SL.Sem
open Cert.RingProof

/-- The kernel, read over the extended reals, ends on every device with its arguments as they were and every
    counter at zero. -/
theorem frame_ideal : Cert.quiescent_KernelIdeal := fun m ρ _ =>
  (θ_run Cert.KernelIdeal.defs _ _).mono (fun _ h => ⟨fun c => (h.1 c).2, h.2⟩) (run_main (F := Ideal) m ρ)

/-- So does the kernel itself: its text is the same. -/
theorem frame_kernel : Cert.quiescent_Kernel := fun m ρ _ =>
  (θ_run Cert.KernelIdeal.defs _ _).mono (fun _ h => ⟨fun c => (h.1 c).2, h.2⟩) (run_main (F := Bits) m ρ)

/-- And the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation was replaced in the reading over the extended reals. -/
theorem preserves : Cert.preserves_Kernel_KernelIdeal := trivial

/-- From blocks of the reference's arguments, every device ends with the reference's whole result. -/
theorem algebraic : Cert.algebraic_KernelIdeal_ReferenceIdeal := fun m g m' g' _ hag =>
  ⟨Cert.RingRef.refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (outV_eq hag), (h.1 c).2⟩) (run_main (F := Ideal) m g),
    (θ_run Cert.ReferenceIdeal.defs _ _).mono (fun _ h => h 0) (Cert.ReferenceIdeal.Value.run (F := Ideal) m' g')⟩

/-- Everything the certificate claims. -/
theorem claim : Cert.Claim :=
  ⟨inferInstance, inferInstance, inferInstance, frame_kernel, frame_ideal, frame_reference, preserves, algebraic⟩

end Cert.Proof

end
